-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32 : Shape := ⟨1, ![32]⟩
abbrev S2x256x1024 : Shape := ⟨3, ![2, 256, 1024]⟩
abbrev S2 : Shape := ⟨1, ![2]⟩
abbrev S256x1024 : Shape := ⟨2, ![256, 1024]⟩
abbrev S4x256x1024 : Shape := ⟨3, ![4, 256, 1024]⟩
abbrev S_ : Shape := ⟨0, ![]⟩
abbrev S1x256x1024 : Shape := ⟨3, ![1, 256, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .local _ .vmem, ⟨0, _⟩ => ⟨S2x256x1024, .f32⟩
  | .local _ .vmem, ⟨1, _⟩ => ⟨S2x256x1024, .bf16⟩
  | .local _ .vmem, ⟨2, _⟩ => ⟨S2x256x1024, .f32⟩
  | .local _ .vmem, ⟨3, _⟩ => ⟨S256x1024, .f32⟩
  | .local _ .vmem, ⟨4, _⟩ => ⟨S4x256x1024, .bf16⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 135 → Bool
  | ⟨i, _⟩ => dmaSemScopedAt i

abbrev sig : RefSig :=
  (ofTc nBuf bufTy 1 135 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch4 : Ref sig .tc := ⟨.vmem, 0, rfl⟩
abbrev cc0_scratch5 : Ref sig .tc := ⟨.vmem, 1, rfl⟩
abbrev cc0_scratch6 : Ref sig .tc := ⟨.vmem, 2, rfl⟩
abbrev cc0_scratch10 : Ref sig .tc := ⟨.vmem, 3, rfl⟩
abbrev cc0_scratch11 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v17 : BitVec 32 := Scalar.muli v2 c8192_i32
  let v18 : BitVec 32 := Scalar.addi v17 c0_i32_12
  let c0_i32_13 : BitVec 32 := 0#32
  ![v18.toNat, 0]
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v28 : BitVec 32 := Scalar.muli v2 c2_i32_24
  let v29 : BitVec 32 := Scalar.addi c0_i32_25 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v30 : BitVec 32 := Scalar.muli v6 c1_i32_26
  let v31 : BitVec 32 := Scalar.addi v29 v30
  v31.toNat
def k0_dev4 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v50 : BitVec 32 := Scalar.muli v2 c2_i32_42
  let v51 : BitVec 32 := Scalar.addi c0_i32_43 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_44 : BitVec 32 := 1#32
  let v52 : BitVec 32 := Scalar.muli v6 c1_i32_44
  let v53 : BitVec 32 := Scalar.addi v51 v52
  v53.toNat
def k0_dev5 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v72 : BitVec 32 := Scalar.muli v2 c2_i32_60
  let v73 : BitVec 32 := Scalar.addi c0_i32_61 v72
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v74 : BitVec 32 := Scalar.muli v6 c1_i32_62
  let v75 : BitVec 32 := Scalar.addi v73 v74
  v75.toNat
def k0_dev6 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_77 : BitVec 32 := 2#32
  let v94 : BitVec 32 := Scalar.muli v2 c2_i32_77
  let v95 : BitVec 32 := Scalar.addi c0_i32_78 v94
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_79 : BitVec 32 := 1#32
  let v96 : BitVec 32 := Scalar.muli v6 c1_i32_79
  let v97 : BitVec 32 := Scalar.addi v95 v96
  v97.toNat
def k0_dev7 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v128 : BitVec 32 := Scalar.muli v2 c2_i32_109
  let v129 : BitVec 32 := Scalar.addi c0_i32_110 v128
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v130 : BitVec 32 := Scalar.muli v6 c1_i32_111
  let v131 : BitVec 32 := Scalar.addi v129 v130
  v131.toNat
def k0_dev8 (d0 : Dev nD) : Nat :=
  let c0_i32_131 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_130 : BitVec 32 := 2#32
  let v152 : BitVec 32 := Scalar.muli v7 c2_i32_130
  let v153 : BitVec 32 := Scalar.addi c0_i32_131 v152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v154 : BitVec 32 := Scalar.muli v5 c1_i32_132
  let v155 : BitVec 32 := Scalar.addi v153 v154
  v155.toNat
def k0_dev9 (d0 : Dev nD) : Nat :=
  let c0_i32_197 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_196 : BitVec 32 := 2#32
  let v220 : BitVec 32 := Scalar.muli v2 c2_i32_196
  let v221 : BitVec 32 := Scalar.addi c0_i32_197 v220
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_198 : BitVec 32 := 1#32
  let v222 : BitVec 32 := Scalar.muli v6 c1_i32_198
  let v223 : BitVec 32 := Scalar.addi v221 v222
  v223.toNat
def k0_dev10 (d0 : Dev nD) : Nat :=
  let c0_i32_218 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_217 : BitVec 32 := 2#32
  let v244 : BitVec 32 := Scalar.muli v7 c2_i32_217
  let v245 : BitVec 32 := Scalar.addi c0_i32_218 v244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v246 : BitVec 32 := Scalar.muli v5 c1_i32_219
  let v247 : BitVec 32 := Scalar.addi v245 v246
  v247.toNat
def k0_dev11 (d0 : Dev nD) : Nat :=
  let c0_i32_284 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_283 : BitVec 32 := 2#32
  let v312 : BitVec 32 := Scalar.muli v2 c2_i32_283
  let v313 : BitVec 32 := Scalar.addi c0_i32_284 v312
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_285 : BitVec 32 := 1#32
  let v314 : BitVec 32 := Scalar.muli v6 c1_i32_285
  let v315 : BitVec 32 := Scalar.addi v313 v314
  v315.toNat
def k0_dev12 (d0 : Dev nD) : Nat :=
  let c0_i32_305 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_304 : BitVec 32 := 2#32
  let v336 : BitVec 32 := Scalar.muli v7 c2_i32_304
  let v337 : BitVec 32 := Scalar.addi c0_i32_305 v336
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_306 : BitVec 32 := 1#32
  let v338 : BitVec 32 := Scalar.muli v5 c1_i32_306
  let v339 : BitVec 32 := Scalar.addi v337 v338
  v339.toNat
def k0_off2 (d0 : Dev nD) (c0_i32_318 : BitVec 32) : Fin 2 → Nat :=
  let c1_i32_316 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v353 : BitVec 32 := Scalar.subi c1_i32_316 v2
  let c8192_i32_317 : BitVec 32 := 8192#32
  let v354 : BitVec 32 := Scalar.muli v353 c8192_i32_317
  let v355 : BitVec 32 := Scalar.addi v354 c0_i32_318
  let c0_i32_323 : BitVec 32 := 0#32
  ![v355.toNat, 0]
def k0_dev13 (d0 : Dev nD) : Nat :=
  let c0_i32_438 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_437 : BitVec 32 := 2#32
  let v472 : BitVec 32 := Scalar.muli v2 c2_i32_437
  let v473 : BitVec 32 := Scalar.addi c0_i32_438 v472
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_439 : BitVec 32 := 1#32
  let v474 : BitVec 32 := Scalar.muli v6 c1_i32_439
  let v475 : BitVec 32 := Scalar.addi v473 v474
  v475.toNat
def k0_dev14 (d0 : Dev nD) : Nat :=
  let c0_i32_459 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_458 : BitVec 32 := 2#32
  let v496 : BitVec 32 := Scalar.muli v7 c2_i32_458
  let v497 : BitVec 32 := Scalar.addi c0_i32_459 v496
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_460 : BitVec 32 := 1#32
  let v498 : BitVec 32 := Scalar.muli v5 c1_i32_460
  let v499 : BitVec 32 := Scalar.addi v497 v498
  v499.toNat
def k0_dev15 (d0 : Dev nD) : Nat :=
  let c0_i32_593 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_592 : BitVec 32 := 2#32
  let v633 : BitVec 32 := Scalar.muli v2 c2_i32_592
  let v634 : BitVec 32 := Scalar.addi c0_i32_593 v633
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_594 : BitVec 32 := 1#32
  let v635 : BitVec 32 := Scalar.muli v6 c1_i32_594
  let v636 : BitVec 32 := Scalar.addi v634 v635
  v636.toNat
def k0_dev16 (d0 : Dev nD) : Nat :=
  let c0_i32_614 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_613 : BitVec 32 := 2#32
  let v657 : BitVec 32 := Scalar.muli v7 c2_i32_613
  let v658 : BitVec 32 := Scalar.addi c0_i32_614 v657
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_615 : BitVec 32 := 1#32
  let v659 : BitVec 32 := Scalar.muli v5 c1_i32_615
  let v660 : BitVec 32 := Scalar.addi v658 v659
  v660.toNat
def k0_dev17 (d0 : Dev nD) : Nat :=
  let c0_i32_748 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_747 : BitVec 32 := 2#32
  let v794 : BitVec 32 := Scalar.muli v2 c2_i32_747
  let v795 : BitVec 32 := Scalar.addi c0_i32_748 v794
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_749 : BitVec 32 := 1#32
  let v796 : BitVec 32 := Scalar.muli v6 c1_i32_749
  let v797 : BitVec 32 := Scalar.addi v795 v796
  v797.toNat
def k0_dev18 (d0 : Dev nD) : Nat :=
  let c0_i32_769 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_768 : BitVec 32 := 2#32
  let v818 : BitVec 32 := Scalar.muli v7 c2_i32_768
  let v819 : BitVec 32 := Scalar.addi c0_i32_769 v818
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_770 : BitVec 32 := 1#32
  let v820 : BitVec 32 := Scalar.muli v5 c1_i32_770
  let v821 : BitVec 32 := Scalar.addi v819 v820
  v821.toNat
def k0_dev19 (d0 : Dev nD) : Nat :=
  let c0_i32_903 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_902 : BitVec 32 := 2#32
  let v955 : BitVec 32 := Scalar.muli v2 c2_i32_902
  let v956 : BitVec 32 := Scalar.addi c0_i32_903 v955
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_904 : BitVec 32 := 1#32
  let v957 : BitVec 32 := Scalar.muli v6 c1_i32_904
  let v958 : BitVec 32 := Scalar.addi v956 v957
  v958.toNat
def k0_dev20 (d0 : Dev nD) : Nat :=
  let c0_i32_924 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_923 : BitVec 32 := 2#32
  let v979 : BitVec 32 := Scalar.muli v7 c2_i32_923
  let v980 : BitVec 32 := Scalar.addi c0_i32_924 v979
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_925 : BitVec 32 := 1#32
  let v981 : BitVec 32 := Scalar.muli v5 c1_i32_925
  let v982 : BitVec 32 := Scalar.addi v980 v981
  v982.toNat
def k0_dev21 (d0 : Dev nD) : Nat :=
  let c0_i32_1058 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1057 : BitVec 32 := 2#32
  let v1116 : BitVec 32 := Scalar.muli v2 c2_i32_1057
  let v1117 : BitVec 32 := Scalar.addi c0_i32_1058 v1116
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1059 : BitVec 32 := 1#32
  let v1118 : BitVec 32 := Scalar.muli v6 c1_i32_1059
  let v1119 : BitVec 32 := Scalar.addi v1117 v1118
  v1119.toNat
def k0_dev22 (d0 : Dev nD) : Nat :=
  let c0_i32_1079 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1078 : BitVec 32 := 2#32
  let v1140 : BitVec 32 := Scalar.muli v7 c2_i32_1078
  let v1141 : BitVec 32 := Scalar.addi c0_i32_1079 v1140
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1080 : BitVec 32 := 1#32
  let v1142 : BitVec 32 := Scalar.muli v5 c1_i32_1080
  let v1143 : BitVec 32 := Scalar.addi v1141 v1142
  v1143.toNat
def k0_dev23 (d0 : Dev nD) : Nat :=
  let c0_i32_1213 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1212 : BitVec 32 := 2#32
  let v1277 : BitVec 32 := Scalar.muli v2 c2_i32_1212
  let v1278 : BitVec 32 := Scalar.addi c0_i32_1213 v1277
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1214 : BitVec 32 := 1#32
  let v1279 : BitVec 32 := Scalar.muli v6 c1_i32_1214
  let v1280 : BitVec 32 := Scalar.addi v1278 v1279
  v1280.toNat
def k0_dev24 (d0 : Dev nD) : Nat :=
  let c0_i32_1234 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1233 : BitVec 32 := 2#32
  let v1301 : BitVec 32 := Scalar.muli v7 c2_i32_1233
  let v1302 : BitVec 32 := Scalar.addi c0_i32_1234 v1301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1235 : BitVec 32 := 1#32
  let v1303 : BitVec 32 := Scalar.muli v5 c1_i32_1235
  let v1304 : BitVec 32 := Scalar.addi v1302 v1303
  v1304.toNat
def k0_dev25 (d0 : Dev nD) : Nat :=
  let c0_i32_1368 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1367 : BitVec 32 := 2#32
  let v1438 : BitVec 32 := Scalar.muli v2 c2_i32_1367
  let v1439 : BitVec 32 := Scalar.addi c0_i32_1368 v1438
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1369 : BitVec 32 := 1#32
  let v1440 : BitVec 32 := Scalar.muli v6 c1_i32_1369
  let v1441 : BitVec 32 := Scalar.addi v1439 v1440
  v1441.toNat
def k0_dev26 (d0 : Dev nD) : Nat :=
  let c0_i32_1389 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1388 : BitVec 32 := 2#32
  let v1462 : BitVec 32 := Scalar.muli v7 c2_i32_1388
  let v1463 : BitVec 32 := Scalar.addi c0_i32_1389 v1462
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1390 : BitVec 32 := 1#32
  let v1464 : BitVec 32 := Scalar.muli v5 c1_i32_1390
  let v1465 : BitVec 32 := Scalar.addi v1463 v1464
  v1465.toNat
def k0_dev27 (d0 : Dev nD) : Nat :=
  let c0_i32_1523 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1522 : BitVec 32 := 2#32
  let v1599 : BitVec 32 := Scalar.muli v2 c2_i32_1522
  let v1600 : BitVec 32 := Scalar.addi c0_i32_1523 v1599
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1524 : BitVec 32 := 1#32
  let v1601 : BitVec 32 := Scalar.muli v6 c1_i32_1524
  let v1602 : BitVec 32 := Scalar.addi v1600 v1601
  v1602.toNat
def k0_dev28 (d0 : Dev nD) : Nat :=
  let c0_i32_1544 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1543 : BitVec 32 := 2#32
  let v1623 : BitVec 32 := Scalar.muli v7 c2_i32_1543
  let v1624 : BitVec 32 := Scalar.addi c0_i32_1544 v1623
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1545 : BitVec 32 := 1#32
  let v1625 : BitVec 32 := Scalar.muli v5 c1_i32_1545
  let v1626 : BitVec 32 := Scalar.addi v1624 v1625
  v1626.toNat
def k0_dev29 (d0 : Dev nD) : Nat :=
  let c0_i32_1678 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1677 : BitVec 32 := 2#32
  let v1760 : BitVec 32 := Scalar.muli v2 c2_i32_1677
  let v1761 : BitVec 32 := Scalar.addi c0_i32_1678 v1760
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1679 : BitVec 32 := 1#32
  let v1762 : BitVec 32 := Scalar.muli v6 c1_i32_1679
  let v1763 : BitVec 32 := Scalar.addi v1761 v1762
  v1763.toNat
def k0_dev30 (d0 : Dev nD) : Nat :=
  let c0_i32_1699 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1698 : BitVec 32 := 2#32
  let v1784 : BitVec 32 := Scalar.muli v7 c2_i32_1698
  let v1785 : BitVec 32 := Scalar.addi c0_i32_1699 v1784
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1700 : BitVec 32 := 1#32
  let v1786 : BitVec 32 := Scalar.muli v5 c1_i32_1700
  let v1787 : BitVec 32 := Scalar.addi v1785 v1786
  v1787.toNat
def k0_dev31 (d0 : Dev nD) : Nat :=
  let c0_i32_1833 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1832 : BitVec 32 := 2#32
  let v1921 : BitVec 32 := Scalar.muli v2 c2_i32_1832
  let v1922 : BitVec 32 := Scalar.addi c0_i32_1833 v1921
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1834 : BitVec 32 := 1#32
  let v1923 : BitVec 32 := Scalar.muli v6 c1_i32_1834
  let v1924 : BitVec 32 := Scalar.addi v1922 v1923
  v1924.toNat
def k0_dev32 (d0 : Dev nD) : Nat :=
  let c0_i32_1854 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1853 : BitVec 32 := 2#32
  let v1945 : BitVec 32 := Scalar.muli v7 c2_i32_1853
  let v1946 : BitVec 32 := Scalar.addi c0_i32_1854 v1945
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1855 : BitVec 32 := 1#32
  let v1947 : BitVec 32 := Scalar.muli v5 c1_i32_1855
  let v1948 : BitVec 32 := Scalar.addi v1946 v1947
  v1948.toNat
def k0_dev33 (d0 : Dev nD) : Nat :=
  let c0_i32_1988 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1987 : BitVec 32 := 2#32
  let v2082 : BitVec 32 := Scalar.muli v2 c2_i32_1987
  let v2083 : BitVec 32 := Scalar.addi c0_i32_1988 v2082
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1989 : BitVec 32 := 1#32
  let v2084 : BitVec 32 := Scalar.muli v6 c1_i32_1989
  let v2085 : BitVec 32 := Scalar.addi v2083 v2084
  v2085.toNat
def k0_dev34 (d0 : Dev nD) : Nat :=
  let c0_i32_2009 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2008 : BitVec 32 := 2#32
  let v2106 : BitVec 32 := Scalar.muli v7 c2_i32_2008
  let v2107 : BitVec 32 := Scalar.addi c0_i32_2009 v2106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2010 : BitVec 32 := 1#32
  let v2108 : BitVec 32 := Scalar.muli v5 c1_i32_2010
  let v2109 : BitVec 32 := Scalar.addi v2107 v2108
  v2109.toNat
def k0_dev35 (d0 : Dev nD) : Nat :=
  let c0_i32_2143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2142 : BitVec 32 := 2#32
  let v2243 : BitVec 32 := Scalar.muli v2 c2_i32_2142
  let v2244 : BitVec 32 := Scalar.addi c0_i32_2143 v2243
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2144 : BitVec 32 := 1#32
  let v2245 : BitVec 32 := Scalar.muli v6 c1_i32_2144
  let v2246 : BitVec 32 := Scalar.addi v2244 v2245
  v2246.toNat
def k0_dev36 (d0 : Dev nD) : Nat :=
  let c0_i32_2164 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2163 : BitVec 32 := 2#32
  let v2267 : BitVec 32 := Scalar.muli v7 c2_i32_2163
  let v2268 : BitVec 32 := Scalar.addi c0_i32_2164 v2267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2165 : BitVec 32 := 1#32
  let v2269 : BitVec 32 := Scalar.muli v5 c1_i32_2165
  let v2270 : BitVec 32 := Scalar.addi v2268 v2269
  v2270.toNat
def k0_dev37 (d0 : Dev nD) : Nat :=
  let c0_i32_2298 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2297 : BitVec 32 := 2#32
  let v2404 : BitVec 32 := Scalar.muli v2 c2_i32_2297
  let v2405 : BitVec 32 := Scalar.addi c0_i32_2298 v2404
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2299 : BitVec 32 := 1#32
  let v2406 : BitVec 32 := Scalar.muli v6 c1_i32_2299
  let v2407 : BitVec 32 := Scalar.addi v2405 v2406
  v2407.toNat
def k0_dev38 (d0 : Dev nD) : Nat :=
  let c0_i32_2319 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2318 : BitVec 32 := 2#32
  let v2428 : BitVec 32 := Scalar.muli v7 c2_i32_2318
  let v2429 : BitVec 32 := Scalar.addi c0_i32_2319 v2428
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2320 : BitVec 32 := 1#32
  let v2430 : BitVec 32 := Scalar.muli v5 c1_i32_2320
  let v2431 : BitVec 32 := Scalar.addi v2429 v2430
  v2431.toNat
def k0_dev39 (d0 : Dev nD) : Nat :=
  let c0_i32_2453 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2452 : BitVec 32 := 2#32
  let v2565 : BitVec 32 := Scalar.muli v2 c2_i32_2452
  let v2566 : BitVec 32 := Scalar.addi c0_i32_2453 v2565
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2454 : BitVec 32 := 1#32
  let v2567 : BitVec 32 := Scalar.muli v6 c1_i32_2454
  let v2568 : BitVec 32 := Scalar.addi v2566 v2567
  v2568.toNat
def k0_dev40 (d0 : Dev nD) : Nat :=
  let c0_i32_2474 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2473 : BitVec 32 := 2#32
  let v2589 : BitVec 32 := Scalar.muli v7 c2_i32_2473
  let v2590 : BitVec 32 := Scalar.addi c0_i32_2474 v2589
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2475 : BitVec 32 := 1#32
  let v2591 : BitVec 32 := Scalar.muli v5 c1_i32_2475
  let v2592 : BitVec 32 := Scalar.addi v2590 v2591
  v2592.toNat
def k0_dev41 (d0 : Dev nD) : Nat :=
  let c0_i32_2608 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2607 : BitVec 32 := 2#32
  let v2726 : BitVec 32 := Scalar.muli v2 c2_i32_2607
  let v2727 : BitVec 32 := Scalar.addi c0_i32_2608 v2726
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2609 : BitVec 32 := 1#32
  let v2728 : BitVec 32 := Scalar.muli v6 c1_i32_2609
  let v2729 : BitVec 32 := Scalar.addi v2727 v2728
  v2729.toNat
def k0_dev42 (d0 : Dev nD) : Nat :=
  let c0_i32_2629 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2628 : BitVec 32 := 2#32
  let v2750 : BitVec 32 := Scalar.muli v7 c2_i32_2628
  let v2751 : BitVec 32 := Scalar.addi c0_i32_2629 v2750
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2630 : BitVec 32 := 1#32
  let v2752 : BitVec 32 := Scalar.muli v5 c1_i32_2630
  let v2753 : BitVec 32 := Scalar.addi v2751 v2752
  v2753.toNat
def k0_dev43 (d0 : Dev nD) : Nat :=
  let c0_i32_2763 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2762 : BitVec 32 := 2#32
  let v2887 : BitVec 32 := Scalar.muli v2 c2_i32_2762
  let v2888 : BitVec 32 := Scalar.addi c0_i32_2763 v2887
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2764 : BitVec 32 := 1#32
  let v2889 : BitVec 32 := Scalar.muli v6 c1_i32_2764
  let v2890 : BitVec 32 := Scalar.addi v2888 v2889
  v2890.toNat
def k0_dev44 (d0 : Dev nD) : Nat :=
  let c0_i32_2784 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2783 : BitVec 32 := 2#32
  let v2911 : BitVec 32 := Scalar.muli v7 c2_i32_2783
  let v2912 : BitVec 32 := Scalar.addi c0_i32_2784 v2911
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2785 : BitVec 32 := 1#32
  let v2913 : BitVec 32 := Scalar.muli v5 c1_i32_2785
  let v2914 : BitVec 32 := Scalar.addi v2912 v2913
  v2914.toNat
def k0_dev45 (d0 : Dev nD) : Nat :=
  let c0_i32_2918 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2917 : BitVec 32 := 2#32
  let v3048 : BitVec 32 := Scalar.muli v2 c2_i32_2917
  let v3049 : BitVec 32 := Scalar.addi c0_i32_2918 v3048
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2919 : BitVec 32 := 1#32
  let v3050 : BitVec 32 := Scalar.muli v6 c1_i32_2919
  let v3051 : BitVec 32 := Scalar.addi v3049 v3050
  v3051.toNat
def k0_dev46 (d0 : Dev nD) : Nat :=
  let c0_i32_2939 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2938 : BitVec 32 := 2#32
  let v3072 : BitVec 32 := Scalar.muli v7 c2_i32_2938
  let v3073 : BitVec 32 := Scalar.addi c0_i32_2939 v3072
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2940 : BitVec 32 := 1#32
  let v3074 : BitVec 32 := Scalar.muli v5 c1_i32_2940
  let v3075 : BitVec 32 := Scalar.addi v3073 v3074
  v3075.toNat
def k0_dev47 (d0 : Dev nD) : Nat :=
  let c0_i32_3073 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3072 : BitVec 32 := 2#32
  let v3209 : BitVec 32 := Scalar.muli v2 c2_i32_3072
  let v3210 : BitVec 32 := Scalar.addi c0_i32_3073 v3209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3074 : BitVec 32 := 1#32
  let v3211 : BitVec 32 := Scalar.muli v6 c1_i32_3074
  let v3212 : BitVec 32 := Scalar.addi v3210 v3211
  v3212.toNat
def k0_dev48 (d0 : Dev nD) : Nat :=
  let c0_i32_3094 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3093 : BitVec 32 := 2#32
  let v3233 : BitVec 32 := Scalar.muli v7 c2_i32_3093
  let v3234 : BitVec 32 := Scalar.addi c0_i32_3094 v3233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3095 : BitVec 32 := 1#32
  let v3235 : BitVec 32 := Scalar.muli v5 c1_i32_3095
  let v3236 : BitVec 32 := Scalar.addi v3234 v3235
  v3236.toNat
def k0_dev49 (d0 : Dev nD) : Nat :=
  let c0_i32_3228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3227 : BitVec 32 := 2#32
  let v3370 : BitVec 32 := Scalar.muli v2 c2_i32_3227
  let v3371 : BitVec 32 := Scalar.addi c0_i32_3228 v3370
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3229 : BitVec 32 := 1#32
  let v3372 : BitVec 32 := Scalar.muli v6 c1_i32_3229
  let v3373 : BitVec 32 := Scalar.addi v3371 v3372
  v3373.toNat
def k0_dev50 (d0 : Dev nD) : Nat :=
  let c0_i32_3249 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3248 : BitVec 32 := 2#32
  let v3394 : BitVec 32 := Scalar.muli v7 c2_i32_3248
  let v3395 : BitVec 32 := Scalar.addi c0_i32_3249 v3394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3250 : BitVec 32 := 1#32
  let v3396 : BitVec 32 := Scalar.muli v5 c1_i32_3250
  let v3397 : BitVec 32 := Scalar.addi v3395 v3396
  v3397.toNat
def k0_dev51 (d0 : Dev nD) : Nat :=
  let c0_i32_3383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3382 : BitVec 32 := 2#32
  let v3531 : BitVec 32 := Scalar.muli v2 c2_i32_3382
  let v3532 : BitVec 32 := Scalar.addi c0_i32_3383 v3531
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3384 : BitVec 32 := 1#32
  let v3533 : BitVec 32 := Scalar.muli v6 c1_i32_3384
  let v3534 : BitVec 32 := Scalar.addi v3532 v3533
  v3534.toNat
def k0_dev52 (d0 : Dev nD) : Nat :=
  let c0_i32_3404 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3403 : BitVec 32 := 2#32
  let v3555 : BitVec 32 := Scalar.muli v7 c2_i32_3403
  let v3556 : BitVec 32 := Scalar.addi c0_i32_3404 v3555
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3405 : BitVec 32 := 1#32
  let v3557 : BitVec 32 := Scalar.muli v5 c1_i32_3405
  let v3558 : BitVec 32 := Scalar.addi v3556 v3557
  v3558.toNat
def k0_dev53 (d0 : Dev nD) : Nat :=
  let c0_i32_3538 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3537 : BitVec 32 := 2#32
  let v3692 : BitVec 32 := Scalar.muli v2 c2_i32_3537
  let v3693 : BitVec 32 := Scalar.addi c0_i32_3538 v3692
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3539 : BitVec 32 := 1#32
  let v3694 : BitVec 32 := Scalar.muli v6 c1_i32_3539
  let v3695 : BitVec 32 := Scalar.addi v3693 v3694
  v3695.toNat
def k0_dev54 (d0 : Dev nD) : Nat :=
  let c0_i32_3559 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3558 : BitVec 32 := 2#32
  let v3716 : BitVec 32 := Scalar.muli v7 c2_i32_3558
  let v3717 : BitVec 32 := Scalar.addi c0_i32_3559 v3716
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3560 : BitVec 32 := 1#32
  let v3718 : BitVec 32 := Scalar.muli v5 c1_i32_3560
  let v3719 : BitVec 32 := Scalar.addi v3717 v3718
  v3719.toNat
def k0_dev55 (d0 : Dev nD) : Nat :=
  let c0_i32_3693 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3692 : BitVec 32 := 2#32
  let v3853 : BitVec 32 := Scalar.muli v2 c2_i32_3692
  let v3854 : BitVec 32 := Scalar.addi c0_i32_3693 v3853
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3694 : BitVec 32 := 1#32
  let v3855 : BitVec 32 := Scalar.muli v6 c1_i32_3694
  let v3856 : BitVec 32 := Scalar.addi v3854 v3855
  v3856.toNat
def k0_dev56 (d0 : Dev nD) : Nat :=
  let c0_i32_3714 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3713 : BitVec 32 := 2#32
  let v3877 : BitVec 32 := Scalar.muli v7 c2_i32_3713
  let v3878 : BitVec 32 := Scalar.addi c0_i32_3714 v3877
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3715 : BitVec 32 := 1#32
  let v3879 : BitVec 32 := Scalar.muli v5 c1_i32_3715
  let v3880 : BitVec 32 := Scalar.addi v3878 v3879
  v3880.toNat
def k0_dev57 (d0 : Dev nD) : Nat :=
  let c0_i32_3848 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3847 : BitVec 32 := 2#32
  let v4014 : BitVec 32 := Scalar.muli v2 c2_i32_3847
  let v4015 : BitVec 32 := Scalar.addi c0_i32_3848 v4014
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3849 : BitVec 32 := 1#32
  let v4016 : BitVec 32 := Scalar.muli v6 c1_i32_3849
  let v4017 : BitVec 32 := Scalar.addi v4015 v4016
  v4017.toNat
def k0_dev58 (d0 : Dev nD) : Nat :=
  let c0_i32_3869 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3868 : BitVec 32 := 2#32
  let v4038 : BitVec 32 := Scalar.muli v7 c2_i32_3868
  let v4039 : BitVec 32 := Scalar.addi c0_i32_3869 v4038
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3870 : BitVec 32 := 1#32
  let v4040 : BitVec 32 := Scalar.muli v5 c1_i32_3870
  let v4041 : BitVec 32 := Scalar.addi v4039 v4040
  v4041.toNat
def k0_dev59 (d0 : Dev nD) : Nat :=
  let c0_i32_4003 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4002 : BitVec 32 := 2#32
  let v4175 : BitVec 32 := Scalar.muli v2 c2_i32_4002
  let v4176 : BitVec 32 := Scalar.addi c0_i32_4003 v4175
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4004 : BitVec 32 := 1#32
  let v4177 : BitVec 32 := Scalar.muli v6 c1_i32_4004
  let v4178 : BitVec 32 := Scalar.addi v4176 v4177
  v4178.toNat
def k0_dev60 (d0 : Dev nD) : Nat :=
  let c0_i32_4024 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4023 : BitVec 32 := 2#32
  let v4199 : BitVec 32 := Scalar.muli v7 c2_i32_4023
  let v4200 : BitVec 32 := Scalar.addi c0_i32_4024 v4199
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4025 : BitVec 32 := 1#32
  let v4201 : BitVec 32 := Scalar.muli v5 c1_i32_4025
  let v4202 : BitVec 32 := Scalar.addi v4200 v4201
  v4202.toNat
def k0_dev61 (d0 : Dev nD) : Nat :=
  let c0_i32_4158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4157 : BitVec 32 := 2#32
  let v4336 : BitVec 32 := Scalar.muli v2 c2_i32_4157
  let v4337 : BitVec 32 := Scalar.addi c0_i32_4158 v4336
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4159 : BitVec 32 := 1#32
  let v4338 : BitVec 32 := Scalar.muli v6 c1_i32_4159
  let v4339 : BitVec 32 := Scalar.addi v4337 v4338
  v4339.toNat
def k0_dev62 (d0 : Dev nD) : Nat :=
  let c0_i32_4179 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4178 : BitVec 32 := 2#32
  let v4360 : BitVec 32 := Scalar.muli v7 c2_i32_4178
  let v4361 : BitVec 32 := Scalar.addi c0_i32_4179 v4360
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4180 : BitVec 32 := 1#32
  let v4362 : BitVec 32 := Scalar.muli v5 c1_i32_4180
  let v4363 : BitVec 32 := Scalar.addi v4361 v4362
  v4363.toNat
def k0_dev63 (d0 : Dev nD) : Nat :=
  let c0_i32_4309 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4308 : BitVec 32 := 2#32
  let v4494 : BitVec 32 := Scalar.muli v7 c2_i32_4308
  let v4495 : BitVec 32 := Scalar.addi c0_i32_4309 v4494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4310 : BitVec 32 := 1#32
  let v4496 : BitVec 32 := Scalar.muli v5 c1_i32_4310
  let v4497 : BitVec 32 := Scalar.addi v4495 v4496
  v4497.toNat
def k0_dev64 (d0 : Dev nD) : Nat :=
  let c0_i32_4439 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4438 : BitVec 32 := 2#32
  let v4628 : BitVec 32 := Scalar.muli v7 c2_i32_4438
  let v4629 : BitVec 32 := Scalar.addi c0_i32_4439 v4628
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4440 : BitVec 32 := 1#32
  let v4630 : BitVec 32 := Scalar.muli v5 c1_i32_4440
  let v4631 : BitVec 32 := Scalar.addi v4629 v4630
  v4631.toNat
def k0_dev65 (d0 : Dev nD) : Nat :=
  let c0_i32_4569 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4568 : BitVec 32 := 2#32
  let v4762 : BitVec 32 := Scalar.muli v7 c2_i32_4568
  let v4763 : BitVec 32 := Scalar.addi c0_i32_4569 v4762
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4570 : BitVec 32 := 1#32
  let v4764 : BitVec 32 := Scalar.muli v5 c1_i32_4570
  let v4765 : BitVec 32 := Scalar.addi v4763 v4764
  v4765.toNat
def k0_dev66 (d0 : Dev nD) : Nat :=
  let c0_i32_4699 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4698 : BitVec 32 := 2#32
  let v4896 : BitVec 32 := Scalar.muli v7 c2_i32_4698
  let v4897 : BitVec 32 := Scalar.addi c0_i32_4699 v4896
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4700 : BitVec 32 := 1#32
  let v4898 : BitVec 32 := Scalar.muli v5 c1_i32_4700
  let v4899 : BitVec 32 := Scalar.addi v4897 v4898
  v4899.toNat
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Struct.lean ====
/-
  The kernel body as a program over a step number: what one send, one task and the closing waits do, with the row
  block, the buffer slot and the semaphore index as parameters.
-/
module

public import proofs.«01_k».proof.Proof.Gen.KernelIdeal
public import proofs.«01_k».proof.Proof.Gen.KernelIdeal.Points

@[expose] public section

set_option synthInstance.maxSize 4096

noncomputable section

namespace Cert.KernelIdeal.Work

open Idealize.ShloMosaic Idealize.ShloMosaic.TcCoe
open Idealize.SL Idealize.SL.Sem
open Cert.KernelIdeal Cert.KernelIdeal.Gen

variable {F : FTy → Type} [FloatOps F]

abbrev K : Type → Type _ := TpuEff nD τ sig (Elt F) Λ₀ .tc

/-! ## Buffers and views -/

abbrev xM : Memref sig .tc .hbm S16384x1024 .f32 := Memref.whole main_arg0
abbrev oM : Memref sig .tc .hbm S16384x1024 .f32 := Memref.whole main_v1_0
abbrev cM : Memref sig .tc .hbm S16384x1024 .bf16 := Memref.whole main_v1_1
abbrev vxM : Memref sig .tc .vmem S2x256x1024 .f32 := Memref.whole cc0_scratch4
abbrev vcM : Memref sig .tc .vmem S2x256x1024 .bf16 := Memref.whole cc0_scratch5
abbrev voM : Memref sig .tc .vmem S2x256x1024 .f32 := Memref.whole cc0_scratch6
abbrev stM : Memref sig .tc .vmem S256x1024 .f32 := Memref.whole cc0_scratch10
abbrev vsM : Memref sig .tc .vmem S4x256x1024 .bf16 := Memref.whole cc0_scratch11

/-- The row offset of a block: `b = false` the half the device shares with its y neighbour, `true` the other half. -/
def off (d : Dev nD) (b : Bool) (k : Fin 32) : Fin 2 → Nat :=
  match b with
  | false => k0_off1 d (BitVec.ofNat 32 (256 * k.val))
  | true => k0_off2 d (BitVec.ofNat 32 (256 * k.val))

/-- A row block lies inside its array. -/
theorem off_inb (d : Dev nD) (b : Bool) (k : Fin 32) (a : Fin 2) : off d b k a + S256x1024.size a ≤ S16384x1024.size a := by
  cases b
  · exact k0_off1_inb d k a
  · exact k0_off2_inb d k a

theorem off_words (d : Dev nD) (b : Bool) (k : Fin 32) :
    (Rect.unit (s := S16384x1024) (off d b k) S256x1024.size (off_inb d b k)).WholeWords (EltTy.packing .bf16) := by
  cases b
  · exact k0_off1_wordsbf16 d k
  · exact k0_off2_wordsbf16 d k

abbrev rowRect (d : Dev nD) (b : Bool) (k : Fin 32) : Rect S16384x1024 :=
  Rect.unit (s := S16384x1024) (off d b k) S256x1024.size (off_inb d b k)

abbrev xRow (d : Dev nD) (b : Bool) (k : Fin 32) : Memref sig .tc .hbm S256x1024 .f32 := xM.slice (rowRect d b k) (fun _ => rfl)
abbrev oRow (d : Dev nD) (b : Bool) (k : Fin 32) : Memref sig .tc .hbm S256x1024 .f32 := oM.slice (rowRect d b k) (fun _ => rfl)
abbrev cRow (d : Dev nD) (b : Bool) (k : Fin 32) : Memref sig .tc .hbm S256x1024 .bf16 := cM.slice (rowRect d b k) (fun _ => rfl)

theorem slot2_inb (s : Fin 2) (a : Fin 3) : (![s.val, 0, 0] : Fin 3 → Nat) a + S1x256x1024.size a ≤ S2x256x1024.size a := by
  revert s a; decide
theorem slot4_inb (s : Fin 4) (a : Fin 3) : (![s.val, 0, 0] : Fin 3 → Nat) a + S1x256x1024.size a ≤ S4x256x1024.size a := by
  revert s a; decide
abbrev slot2 (s : Fin 2) : Rect S2x256x1024 := Rect.unit (s := S2x256x1024) ![s.val, 0, 0] S1x256x1024.size (slot2_inb s)
abbrev slot4 (s : Fin 4) : Rect S4x256x1024 := Rect.unit (s := S4x256x1024) ![s.val, 0, 0] S1x256x1024.size (slot4_inb s)

theorem slot2_words (s : Fin 2) : (slot2 s).WholeWords (EltTy.packing .bf16) := by
  fin_cases s
  · exact wordsbf16_S2x256x1024_S1x256x1024_0_0_0
  · exact wordsbf16_S2x256x1024_S1x256x1024_1_0_0
theorem slot4_words (s : Fin 4) : (slot4 s).WholeWords (EltTy.packing .bf16) := by
  fin_cases s
  · exact wordsbf16_S4x256x1024_S1x256x1024_0_0_0
  · exact wordsbf16_S4x256x1024_S1x256x1024_1_0_0
  · exact wordsbf16_S4x256x1024_S1x256x1024_2_0_0
  · exact wordsbf16_S4x256x1024_S1x256x1024_3_0_0
theorem slot4_packed (s : Fin 4) : (slot4 s).PackedRows (EltTy.packing .bf16) := by
  fin_cases s
  · exact packedbf16_S4x256x1024_S1x256x1024_0_0_0
  · exact packedbf16_S4x256x1024_S1x256x1024_1_0_0
  · exact packedbf16_S4x256x1024_S1x256x1024_2_0_0
  · exact packedbf16_S4x256x1024_S1x256x1024_3_0_0

abbrev vxS (s : Fin 2) : Memref sig .tc .vmem S256x1024 .f32 := (vxM.slice (slot2 s) (fun _ => rfl)).squeeze S256x1024 squeezes_S1x256x1024_S256x1024
abbrev vcS (s : Fin 2) : Memref sig .tc .vmem S256x1024 .bf16 := (vcM.slice (slot2 s) (fun _ => rfl)).squeeze S256x1024 squeezes_S1x256x1024_S256x1024
abbrev voS (s : Fin 2) : Memref sig .tc .vmem S256x1024 .f32 := (voM.slice (slot2 s) (fun _ => rfl)).squeeze S256x1024 squeezes_S1x256x1024_S256x1024
abbrev vsS (s : Fin 4) : Memref sig .tc .vmem S256x1024 .bf16 := (vsM.slice (slot4 s) (fun _ => rfl)).squeeze S256x1024 squeezes_S1x256x1024_S256x1024

theorem sem32_inb (k : Fin 32) (a : Fin 1) : (![k.val] : Fin 1 → Nat) a + S1.size a ≤ S32.size a := by revert k a; decide
theorem sem2_inb (s : Fin 2) (a : Fin 1) : (![s.val] : Fin 1 → Nat) a + S1.size a ≤ S2.size a := by revert s a; decide
abbrev sem32 (A : DmaSems sig S32) (k : Fin 32) : DmaSem sig :=
  ((A.slice (Rect.unit (s := S32) ![k.val] S1.size (sem32_inb k))).squeeze S_ squeezes_S1_S_).sem
abbrev sem2 (A : DmaSems sig S2) (s : Fin 2) : DmaSem sig :=
  ((A.slice (Rect.unit (s := S2) ![s.val] S1.size (sem2_inb s))).squeeze S_ squeezes_S1_S_).sem

abbrev ssem1 (k : Fin 32) : DmaSem sig := sem32 cc0_scratch0 k
abbrev rsem1 (k : Fin 32) : DmaSem sig := sem32 cc0_scratch1 k
abbrev ssem2 (k : Fin 32) : DmaSem sig := sem32 cc0_scratch2 k
abbrev rsem2 (k : Fin 32) : DmaSem sig := sem32 cc0_scratch3 k
abbrev lxSem (s : Fin 2) : DmaSem sig := sem2 cc0_scratch7 s
abbrev lcSem (s : Fin 2) : DmaSem sig := sem2 cc0_scratch8 s
abbrev stSem (s : Fin 2) : DmaSem sig := sem2 cc0_scratch9 s
abbrev sgSem : DmaSem sig := cc0_scratch12.sem
abbrev barSem : Sem sig := (SemArray.scalar (sig.barrier 0 rfl) : Sems sig S_).sem

/-- The y neighbour and the x neighbour, as the body computes them. -/
abbrev ynbr (d : Dev nD) : Dev nD := ⟨k0_dev1 d, k0_dev1_lt d⟩
/-- The neighbour along x. -/
abbrev xnbr (d : Dev nD) : Dev nD := ⟨k0_dev2 d, k0_dev2_lt d⟩

/-! ## The pieces -/

theorem commExact (d : Dev nD) (b : Bool) (k : Fin 32) : (cRow d b k).view.WordExact :=
  (Memref.isWhole_whole main_v1_1).wordExact_slice rfl _ (off_words d b k)
theorem vcExact (s : Fin 2) : (vcS s).view.WordExact :=
  ((Memref.isWhole_whole cc0_scratch5).wordExact_slice rfl _ (slot2_words s)).reshape _ _
theorem vsExact (s : Fin 4) : (vsS s).view.WordExact :=
  ((Memref.isWhole_whole cc0_scratch11).wordExact_slice rfl _ (slot4_words s)).reshape _ _

/-- What is stored in a send slot: the staged block at the narrow format. -/
abbrev paySend (v : Vec F S256x1024 .f32) : Vec F S1x256x1024 .bf16 :=
  shapeCast S1x256x1024 (truncf .bf16 v bitsLt_bf16_f32 : FVec F S256x1024 .bf16) shapeCasts_S256x1024_S1x256x1024

/-- What is stored in an output slot: the own block plus the received one widened. -/
abbrev payOut (v : Vec F S1x256x1024 .f32) (w : Vec F S1x256x1024 .bf16) : Vec F S1x256x1024 .f32 :=
  shapeCast S1x256x1024
    (addf (shapeCast S256x1024 v shapeCasts_S1x256x1024_S256x1024 : FVec F S256x1024 .f32)
      (extf .f32 (shapeCast S256x1024 w shapeCasts_S1x256x1024_S256x1024 : FVec F S256x1024 .bf16) bitsLt_bf16_f32))
    shapeCasts_S256x1024_S1x256x1024

/-- Wait for the departure of send `k`, out of slot `s`. -/
def waitSent (d : Dev nD) (k : Fin 32) (s : Fin 4) : Prog (K (F := F)) PUnit :=
  Prog.lift (.waitDma2 (ssem1 k) (cRow d false k) (vsS s) (commExact d false k) (vsExact s))

/-- Stage block `k`, narrow it into slot `s`, send it to the y neighbour. -/
def send (d : Dev nD) (k : Fin 32) (s : Fin 4) : Prog (K (F := F)) PUnit := do
  Prog.lift (.enqueueDma (xRow d false k) (.here stM) (.dma sgSem) (View.wordExact_bits rfl) (Memref.isWhole_whole cc0_scratch10).wordExact ⟨Or.inl rfl, trivial⟩)
  Prog.lift (.waitDma2 sgSem (xRow d false k) stM (View.wordExact_bits rfl) (Memref.isWhole_whole cc0_scratch10).wordExact)
  let v : Vec F S256x1024 .f32 ← Prog.lift (.load stM (Rect.unit (s := S256x1024) ![0, 0] S256x1024.size inb_S256x1024_S256x1024_0_0).toLoadRect (View.loadsAt_vmem h_S256x1024))
  let _ : Vec F S1x256x1024 .bf16 ← Prog.lift (.load vsM (slot4 s).toLoadRect (View.loadsAt_vmem h_S1x256x1024))
  Prog.lift (.store vsM (slot4 s) (paySend v) Finset.univ (View.stores_vmem h_S1x256x1024 ((Memref.isWhole_whole cc0_scratch11).storeExact_slice rfl _ (slot4_packed s)) (fun _ => rfl)) (.inl rfl))
  Prog.lift (.enqueueDma (vsS s) (.remote (Dev.tc (ynbr d)) (cRow d false k) (.dma (ssem1 k))) (.dma (rsem1 k)) (vsExact s) (commExact d false k) ⟨⟨rfl, Or.inl rfl⟩, trivial⟩)

/-- Wait for block `k` of the y neighbour. -/
def waitRecv1 (d : Dev nD) (k : Fin 32) (s : Fin 4) : Prog (K (F := F)) PUnit :=
  Prog.lift (.waitDma2 (rsem1 k) (vsS s) (cRow d false k) (vsExact s) (commExact d false k))

/-- Pass block `k` on to the x neighbour. -/
def forward (d : Dev nD) (k : Fin 32) : Prog (K (F := F)) PUnit :=
  Prog.lift (.enqueueDma (cRow d false k) (.remote (Dev.tc (xnbr d)) (cRow d false k) (.dma (ssem2 k))) (.dma (rsem2 k)) (commExact d false k) (commExact d false k) ⟨⟨rfl, Or.inl rfl⟩, trivial⟩)

/-- Wait for block `k` of the x neighbour. -/
def waitRecv2 (d : Dev nD) (k : Fin 32) : Prog (K (F := F)) PUnit :=
  Prog.lift (.waitDma2 (rsem2 k) (cRow d false k) (cRow d false k) (commExact d false k) (commExact d false k))

/-- Wait for the departure of the pass of block `k`. -/
def waitPassed (d : Dev nD) (k : Fin 32) : Prog (K (F := F)) PUnit :=
  Prog.lift (.waitDma2 (ssem2 k) (cRow d false k) (cRow d false k) (commExact d false k) (commExact d false k))

/-- Start the load of a block of the own input into slot `s`. -/
def loadX (d : Dev nD) (b : Bool) (k : Fin 32) (s : Fin 2) : Prog (K (F := F)) PUnit :=
  Prog.lift (.enqueueDma (xRow d b k) (.here (vxS s)) (.dma (lxSem s)) (View.wordExact_bits rfl) ((View.wordExact_bits rfl).reshape _ _) ⟨Or.inl rfl, trivial⟩)

/-- Start the load of a received block into slot `s`. -/
def loadC (d : Dev nD) (b : Bool) (k : Fin 32) (s : Fin 2) : Prog (K (F := F)) PUnit :=
  Prog.lift (.enqueueDma (cRow d b k) (.here (vcS s)) (.dma (lcSem s)) (commExact d b k) (vcExact s) ⟨Or.inl rfl, trivial⟩)

/-- Wait for a block of the argument to reach its slot. -/
def waitX (d : Dev nD) (b : Bool) (k : Fin 32) (s : Fin 2) : Prog (K (F := F)) PUnit :=
  Prog.lift (.waitDma2 (lxSem s) (xRow d b k) (vxS s) (View.wordExact_bits rfl) ((View.wordExact_bits rfl).reshape _ _))

/-- Wait for a received block to reach its slot. -/
def waitC (d : Dev nD) (b : Bool) (k : Fin 32) (s : Fin 2) : Prog (K (F := F)) PUnit :=
  Prog.lift (.waitDma2 (lcSem s) (cRow d b k) (vcS s) (commExact d b k) (vcExact s))

/-- Wait for the store of an earlier block out of slot `s`. -/
def waitOut (d : Dev nD) (b : Bool) (k : Fin 32) (s : Fin 2) : Prog (K (F := F)) PUnit :=
  Prog.lift (.waitDma2 (stSem s) (voS s) (oRow d b k) ((View.wordExact_bits rfl).reshape _ _) (View.wordExact_bits rfl))

/-- Add the two loaded blocks and start the store of the sum. -/
def combine (d : Dev nD) (b : Bool) (k : Fin 32) (s : Fin 2) : Prog (K (F := F)) PUnit := do
  let v : Vec F S1x256x1024 .f32 ← Prog.lift (.load vxM (slot2 s).toLoadRect (View.loadsAt_vmem h_S1x256x1024))
  let w : Vec F S1x256x1024 .bf16 ← Prog.lift (.load vcM (slot2 s).toLoadRect (View.loadsAt_vmem h_S1x256x1024))
  let _ : Vec F S1x256x1024 .f32 ← Prog.lift (.load voM (slot2 s).toLoadRect (View.loadsAt_vmem h_S1x256x1024))
  Prog.lift (.store voM (slot2 s) (payOut v w) Finset.univ (View.stores_vmem_bits_univ h_S1x256x1024 rfl) (.inl rfl))
  Prog.lift (.enqueueDma (voS s) (.here (oRow d b k)) (.dma (stSem s)) ((View.wordExact_bits rfl).reshape _ _) (View.wordExact_bits rfl) ⟨Or.inl rfl, trivial⟩)

/-! ## The tasks -/

/-- Task `t` handles a block of the half `taskB t`, number `taskK t`. -/
def taskB (t : Nat) : Bool := (decide (2 < t) && decide (t % 2 = 1)) || decide (t = 62)
/-- The row block that task t works on. -/
def taskK (t : Nat) : Fin 32 :=
  Fin.ofNat 32 (if t < 2 then t else if t = 62 then 30 else if t = 63 then 31 else if t % 2 = 0 then t / 2 + 1 else t / 2 - 1)
abbrev slotOf (t : Nat) : Fin 2 := Fin.ofNat 2 t
abbrev sendSlot (k : Nat) : Fin 4 := Fin.ofNat 4 k
abbrev blk (k : Nat) : Fin 32 := Fin.ofNat 32 k

/-- What opens task `t`: on the first half, the next send (once slots are in use, after the departure of the one
    that used the slot), the arrival and the pass; on the other half, the arrival. -/
def head (d : Dev nD) (t : Nat) : Prog (K (F := F)) PUnit :=
  match taskB t with
  | true => waitRecv2 d (taskK t)
  | false =>
    if (taskK t).val + 4 < 32 then do
      waitSent d (taskK t) (sendSlot (taskK t).val)
      send d (blk ((taskK t).val + 4)) (sendSlot (taskK t).val)
      waitRecv1 d (taskK t) (sendSlot (taskK t).val)
      forward d (taskK t)
    else do
      waitRecv1 d (taskK t) (sendSlot (taskK t).val)
      forward d (taskK t)

/-- The rest of task `t`. -/
def tail (d : Dev nD) (t : Nat) : Prog (K (F := F)) PUnit := do
  loadC d (taskB t) (taskK t) (slotOf t)
  if t + 1 < 64 then loadX d (taskB (t + 1)) (taskK (t + 1)) (slotOf (t + 1)) else pure ⟨⟩
  waitX d (taskB t) (taskK t) (slotOf t)
  waitC d (taskB t) (taskK t) (slotOf t)
  if 2 ≤ t then waitOut d (taskB (t - 2)) (taskK (t - 2)) (slotOf t) else pure ⟨⟩
  combine d (taskB t) (taskK t) (slotOf t)

/-- Run `f 0`, …, `f (n - 1)` from `i` on, then `p`. -/
def steps {α : Type} (f : Nat → Prog (K (F := F)) PUnit) (p : Prog (K (F := F)) α) : Nat → Nat → Prog (K (F := F)) α
  | _, 0 => p
  | i, n + 1 => do f i; steps f p (i + 1) n

/-- The closing waits: the last sends and every pass have left. -/
def closing (d : Dev nD) : Prog (K (F := F)) PUnit := do
  waitOut d (taskB 62) (taskK 62) 0
  waitOut d (taskB 63) (taskK 63) 1
  steps (fun k => waitSent d (blk k) (sendSlot k)) (steps (fun k => waitPassed d (blk k)) (pure ⟨⟩) 0 32) 28 4

/-- The barrier: a unit to each neighbour, then a wait for the two units of the neighbours. -/
def opening (d : Dev nD) : Prog (K (F := F)) PUnit := do
  semSignalWord (ynbr d) barSem 1#32
  semSignalWord (xnbr d) barSem 1#32
  semWaitWord barSem 2#32

/-- The whole body: the barrier, the first four sends, the first load, the 64 tasks, and the closing waits. -/
def body : Prog (K (F := F)) PUnit := do
  let d ← Prog.lift .deviceId
  opening d
  steps (fun k => send d (blk k) (sendSlot k)) (do
    loadX d false 0 0
    steps (fun t => do head d t; tail d t) (closing d) 0 64) 0 4

end Cert.KernelIdeal.Work

end
-- ==== Proof.Geom.lean ====
/-
  Where things lie: the neighbours of a device, the row blocks of the three arrays, the slots of the buffers, and what
  the transfers, loads and stores of the body leave in them.
-/
module

public import proofs.«01_k».proof.Proof.Struct

@[expose] public section

set_option synthInstance.maxSize 4096

noncomputable section

namespace Cert.KernelIdeal.Work

open Idealize.ShloMosaic Idealize.ShloMosaic.TcCoe
open Idealize.SL Idealize.SL.Sem
open Cert.KernelIdeal Cert.KernelIdeal.Gen

variable {F : FTy → Type} [FloatOps F]

/-! ## Neighbours -/

theorem dev_lt (d : Dev nD) : d.val < 4 := d.isLt

theorem ynbr_val (d : Dev nD) : (ynbr d).val = 2 * (d.val / 2) + 1 - d.val % 2 := k0_dev1_eq d
theorem xnbr_val (d : Dev nD) : (xnbr d).val = d.val % 2 + 2 - 2 * (d.val / 2) := k0_dev2_eq d

theorem ynbr_ynbr (d : Dev nD) : ynbr (ynbr d) = d :=
  Fin.ext (by have := dev_lt d; rw [ynbr_val, ynbr_val]; omega)
theorem xnbr_xnbr (d : Dev nD) : xnbr (xnbr d) = d :=
  Fin.ext (by have := dev_lt d; rw [xnbr_val, xnbr_val]; omega)
theorem ynbr_ne_xnbr (d : Dev nD) : ynbr d ≠ xnbr d := fun h => by
  have := congrArg Fin.val h; have := dev_lt d; rw [ynbr_val, xnbr_val] at *; omega

/-- The pairing of the devices along `y`, and along `x`. -/
def yswap : Dev nD ≃ Dev nD := ⟨ynbr, ynbr, ynbr_ynbr, ynbr_ynbr⟩
/-- The exchange of the two x neighbours. -/
def xswap : Dev nD ≃ Dev nD := ⟨xnbr, xnbr, xnbr_xnbr, xnbr_xnbr⟩

/-! ## Row blocks -/

/-- The number, among the 64 blocks of 256 rows, of a device's block `k` of the half `b`. -/
def rowNo (d : Dev nD) (b : Bool) (k : Fin 32) : ℕ := 32 * ((d.val / 2 + b.toNat) % 2) + k.val

/-- The first row of a block, in closed form. -/
theorem off_eq (d : Dev nD) (b : Bool) (k : Fin 32) : off d b k = ![256 * rowNo d b k, 0] := by
  have := dev_lt d
  cases b
  · show k0_off1 d (BitVec.ofNat 32 (256 * k.val)) = _
    rw [k0_off1_eq]
    have e : 8192 * (d.val / 2) + 256 * k.val = 256 * rowNo d false k := by
      unfold rowNo; simp only [Bool.toNat_false]; omega
    rw [e]
  · show k0_off2 d (BitVec.ofNat 32 (256 * k.val)) = _
    rw [k0_off2_eq]
    have e : 256 * k.val + 8192 - 8192 * (d.val / 2) = 256 * rowNo d true k := by
      unfold rowNo; simp only [Bool.toNat_true]; omega
    rw [e]

/-- The elements of a block, in any of the three arrays. -/
def rows (d : Dev nD) (b : Bool) (k : Fin 32) : Finset S16384x1024.Idx := (rowRect d b k).set

/-- An index lies in a block's rows when its row number divided by 256 is the block's number. -/
theorem mem_rows {d : Dev nD} {b : Bool} {k : Fin 32} {i : S16384x1024.Idx} :
    i ∈ rows d b k ↔ (i 0).val / 256 = rowNo d b k := by
  unfold rows
  rw [Rect.mem_set_unit, off_eq]
  constructor
  · intro h
    have h0 : 256 * rowNo d b k ≤ (i 0).val ∧ (i 0).val < 256 * rowNo d b k + 256 := h 0
    omega
  · intro h
    refine Fin.forall_fin_two.mpr ⟨?_, ?_⟩
    · show 256 * rowNo d b k ≤ (i 0).val ∧ (i 0).val < 256 * rowNo d b k + 256
      omega
    · show 0 ≤ (i 1).val ∧ (i 1).val < 0 + 1024
      have : (i 1).val < 1024 := (i 1).isLt
      omega

theorem rowNo_inj {d : Dev nD} {b b' : Bool} {k k' : Fin 32} (h : rowNo d b k = rowNo d b' k') : (b, k) = (b', k') := by
  unfold rowNo at h
  have := k.isLt; have := k'.isLt
  have hk : k = k' := Fin.ext (by omega)
  have hb : (d.val / 2 + b.toNat) % 2 = (d.val / 2 + b'.toNat) % 2 := by omega
  cases b <;> cases b' <;> simp only [Bool.toNat_false, Bool.toNat_true] at hb <;>
    first
      | exact congrArg _ hk
      | omega

/-- Two different blocks share no row. -/
theorem rows_disjoint (d : Dev nD) {p p' : Bool × Fin 32} (h : p ≠ p') : Disjoint (rows d p.1 p.2) (rows d p'.1 p'.2) :=
  Finset.disjoint_left.mpr fun i hi hi' => h (rowNo_inj ((mem_rows.mp hi).symm.trans (mem_rows.mp hi')))

/-- The 64 blocks of a device are the whole array. -/
theorem rows_cover (d : Dev nD) : (Finset.univ : Finset (Bool × Fin 32)).biUnion (fun p => rows d p.1 p.2) = Finset.univ := by
  ext i
  simp only [Finset.mem_biUnion, Finset.mem_univ, true_and, iff_true]
  have hi : (i 0).val < 16384 := (i 0).isLt
  refine ⟨(decide ((i 0).val / 8192 ≠ d.val / 2), ⟨(i 0).val / 256 % 32, Nat.mod_lt _ (by decide)⟩), mem_rows.mpr ?_⟩
  have := dev_lt d
  unfold rowNo
  by_cases h : (i 0).val / 8192 = d.val / 2
  · have e : decide ((i 0).val / 8192 ≠ d.val / 2) = false := decide_eq_false (not_not.mpr h)
    simp only [e, Bool.toNat_false]; omega
  · have e : decide ((i 0).val / 8192 ≠ d.val / 2) = true := decide_eq_true h
    simp only [e, Bool.toNat_true]; omega

theorem rowNo_ynbr (d : Dev nD) (b : Bool) (k : Fin 32) : rowNo (ynbr d) b k = rowNo d b k := by
  unfold rowNo; have := dev_lt d; rw [ynbr_val]
  have e : (2 * (d.val / 2) + 1 - d.val % 2) / 2 = d.val / 2 := by omega
  rw [e]
theorem rowNo_xnbr (d : Dev nD) (b : Bool) (k : Fin 32) : rowNo (xnbr d) (!b) k = rowNo d b k := by
  unfold rowNo; have := dev_lt d; rw [xnbr_val]
  cases b <;> simp only [Bool.not_false, Bool.not_true, Bool.toNat_false, Bool.toNat_true] <;> omega

/-- A device and its y neighbour number the blocks alike. -/
theorem rows_ynbr (d : Dev nD) (b : Bool) (k : Fin 32) : rows (ynbr d) b k = rows d b k := by
  ext i; rw [mem_rows, mem_rows, rowNo_ynbr]
/-- A device's own half is its x neighbour's other half. -/
theorem rows_xnbr (d : Dev nD) (b : Bool) (k : Fin 32) : rows (xnbr d) (!b) k = rows d b k := by
  ext i; rw [mem_rows, mem_rows, rowNo_xnbr]

theorem xRow_set (d : Dev nD) (b : Bool) (k : Fin 32) : (xRow d b k).view.set = rows d b k := View.set_slice_whole main_arg0 _
theorem oRow_set (d : Dev nD) (b : Bool) (k : Fin 32) : (oRow d b k).view.set = rows d b k := View.set_slice_whole main_v1_0 _
theorem cRow_set (d : Dev nD) (b : Bool) (k : Fin 32) : (cRow d b k).view.set = rows d b k := View.set_slice_whole main_v1_1 _

theorem rows_emb {d : Dev nD} {b : Bool} {k : Fin 32} {i : S16384x1024.Idx} (h : i ∈ rows d b k) : ∃ j, (rowRect d b k).emb j = i := by
  have h' : i ∈ (cRow d b k).view.set := by rw [cRow_set]; exact h
  obtain ⟨j, -, e⟩ := Finset.mem_map.mp h'
  exact ⟨j, e⟩

/-- A block written with what another array reads there is, on the block, that array. -/
theorem oRow_write (d : Dev nD) (b : Bool) (k : Fin 32) (f g : S16384x1024.Idx → F .f32) (w : S256x1024.Idx → F .f32)
    (h : ∀ j, w j = g ((rowRect d b k).emb j)) : ∀ i ∈ rows d b k, (oRow d b k).view.write (Elt F) f w Finset.univ i = g i := by
  intro i hi
  obtain ⟨j, rfl⟩ := rows_emb hi
  exact (View.write_emb_of_mem (v := (oRow d b k).view) (Val := Elt F) f w (Finset.mem_univ j)).trans (h j)
/-- What a block holds once a copy has landed in it. -/
theorem cRow_write (d : Dev nD) (b : Bool) (k : Fin 32) (f g : S16384x1024.Idx → F .bf16) (w : S256x1024.Idx → F .bf16)
    (h : ∀ j, w j = g ((rowRect d b k).emb j)) : ∀ i ∈ rows d b k, (cRow d b k).view.write (Elt F) f w Finset.univ i = g i := by
  intro i hi
  obtain ⟨j, rfl⟩ := rows_emb hi
  exact (View.write_emb_of_mem (v := (cRow d b k).view) (Val := Elt F) f w (Finset.mem_univ j)).trans (h j)

theorem xRow_read (d : Dev nD) (b : Bool) (k : Fin 32) (f : S16384x1024.Idx → F .f32) (j : S256x1024.Idx) :
    (xRow d b k).view.read (Elt F) f j = f ((rowRect d b k).emb j) := rfl
theorem cRow_read (d : Dev nD) (b : Bool) (k : Fin 32) (f : S16384x1024.Idx → F .bf16) (j : S256x1024.Idx) :
    (cRow d b k).view.read (Elt F) f j = f ((rowRect d b k).emb j) := rfl

/-! ## Slots -/

theorem vxS_set (s : Fin 2) : (vxS s).view.set = (slot2 s).set := (View.set_reshape _ _).trans (View.set_slice_whole cc0_scratch4 _)
theorem vcS_set (s : Fin 2) : (vcS s).view.set = (slot2 s).set := (View.set_reshape _ _).trans (View.set_slice_whole cc0_scratch5 _)
theorem voS_set (s : Fin 2) : (voS s).view.set = (slot2 s).set := (View.set_reshape _ _).trans (View.set_slice_whole cc0_scratch6 _)
theorem vsS_set (s : Fin 4) : (vsS s).view.set = (slot4 s).set := (View.set_reshape _ _).trans (View.set_slice_whole cc0_scratch11 _)

theorem vxA_set (s : Fin 2) : (vxM.access (slot2 s)).set = (slot2 s).set := View.set_slice_whole cc0_scratch4 _
theorem vcA_set (s : Fin 2) : (vcM.access (slot2 s)).set = (slot2 s).set := View.set_slice_whole cc0_scratch5 _
theorem voA_set (s : Fin 2) : (voM.access (slot2 s)).set = (slot2 s).set := View.set_slice_whole cc0_scratch6 _
theorem vsA_set (s : Fin 4) : (vsM.access (slot4 s)).set = (slot4 s).set := View.set_slice_whole cc0_scratch11 _

theorem mem_slot2 {s : Fin 2} {i : S2x256x1024.Idx} : i ∈ (slot2 s).set ↔ (i 0).val = s.val := by
  rw [Rect.mem_set_unit]
  have h1 : (i 1).val < 256 := (i 1).isLt
  have h2 : (i 2).val < 1024 := (i 2).isLt
  constructor
  · intro h
    have h0 : s.val ≤ (i 0).val ∧ (i 0).val < s.val + 1 := h 0
    omega
  · intro h a
    fin_cases a
    · show s.val ≤ (i 0).val ∧ (i 0).val < s.val + 1
      omega
    · show 0 ≤ (i 1).val ∧ (i 1).val < 0 + 256
      omega
    · show 0 ≤ (i 2).val ∧ (i 2).val < 0 + 1024
      omega
theorem mem_slot4 {s : Fin 4} {i : S4x256x1024.Idx} : i ∈ (slot4 s).set ↔ (i 0).val = s.val := by
  rw [Rect.mem_set_unit]
  have h1 : (i 1).val < 256 := (i 1).isLt
  have h2 : (i 2).val < 1024 := (i 2).isLt
  constructor
  · intro h
    have h0 : s.val ≤ (i 0).val ∧ (i 0).val < s.val + 1 := h 0
    omega
  · intro h a
    fin_cases a
    · show s.val ≤ (i 0).val ∧ (i 0).val < s.val + 1
      omega
    · show 0 ≤ (i 1).val ∧ (i 1).val < 0 + 256
      omega
    · show 0 ≤ (i 2).val ∧ (i 2).val < 0 + 1024
      omega

theorem slot2_disjoint {s s' : Fin 2} (h : s ≠ s') : Disjoint (slot2 s).set (slot2 s').set :=
  Finset.disjoint_left.mpr fun i hi hi' => h (Fin.ext ((mem_slot2.mp hi).symm.trans (mem_slot2.mp hi')))
theorem slot4_disjoint {s s' : Fin 4} (h : s ≠ s') : Disjoint (slot4 s).set (slot4 s').set :=
  Finset.disjoint_left.mpr fun i hi hi' => h (Fin.ext ((mem_slot4.mp hi).symm.trans (mem_slot4.mp hi')))
/-- The two slots make up their buffer. -/
theorem slot2_cover : (Finset.univ : Finset (Fin 2)).biUnion (fun s => (slot2 s).set) = Finset.univ := by
  ext i
  simp only [Finset.mem_biUnion, Finset.mem_univ, true_and, iff_true]
  exact ⟨i 0, mem_slot2.mpr rfl⟩
/-- The four slots make up their buffer. -/
theorem slot4_cover : (Finset.univ : Finset (Fin 4)).biUnion (fun s => (slot4 s).set) = Finset.univ := by
  ext i
  simp only [Finset.mem_biUnion, Finset.mem_univ, true_and, iff_true]
  exact ⟨i 0, mem_slot4.mpr rfl⟩

/-- A slot loaded as a stack of one block and cast to the block is what the slot's own view reads. -/
theorem vx_load (s : Fin 2) (f : S2x256x1024.Idx → F .f32) :
    shapeCast S256x1024 ((vxM.access (slot2 s)).read (Elt F) f) shapeCasts_S1x256x1024_S256x1024 = (vxS s).view.read (Elt F) f := rfl
/-- Loading a slot gives what the slot reads. -/
theorem vc_load (s : Fin 2) (f : S2x256x1024.Idx → F .bf16) :
    shapeCast S256x1024 ((vcM.access (slot2 s)).read (Elt F) f) shapeCasts_S1x256x1024_S256x1024 = (vcS s).view.read (Elt F) f := rfl

/-- A slot stored with a block cast to a stack of one reads, through the slot's own view, as the block. -/
theorem vo_store (s : Fin 2) (f : S2x256x1024.Idx → F .f32) (w : Vec F S256x1024 .f32) :
    (voS s).view.read (Elt F) ((voM.access (slot2 s)).write (Elt F) f (shapeCast S1x256x1024 w shapeCasts_S256x1024_S1x256x1024) Finset.univ) = w := by
  funext j
  have h := congrFun (View.read_write_univ (v := voM.access (slot2 s)) (Val := Elt F) f (shapeCast S1x256x1024 w shapeCasts_S256x1024_S1x256x1024))
    (Shape.reshapeEquiv shapeCasts_S1x256x1024_S256x1024 j)
  refine Eq.trans h ?_
  show w (Shape.reshapeEquiv _ (Shape.reshapeEquiv _ j)) = w j
  rw [Shape.reshapeEquiv_reshapeEquiv, Shape.reshapeEquiv_self]
/-- What is stored into a send slot is what the slot then reads. -/
theorem vs_store (s : Fin 4) (f : S4x256x1024.Idx → F .bf16) (w : Vec F S256x1024 .bf16) :
    (vsS s).view.read (Elt F) ((vsM.access (slot4 s)).write (Elt F) f (shapeCast S1x256x1024 w shapeCasts_S256x1024_S1x256x1024) Finset.univ) = w := by
  funext j
  have h := congrFun (View.read_write_univ (v := vsM.access (slot4 s)) (Val := Elt F) f (shapeCast S1x256x1024 w shapeCasts_S256x1024_S1x256x1024))
    (Shape.reshapeEquiv shapeCasts_S1x256x1024_S256x1024 j)
  refine Eq.trans h ?_
  show w (Shape.reshapeEquiv _ (Shape.reshapeEquiv _ j)) = w j
  rw [Shape.reshapeEquiv_reshapeEquiv, Shape.reshapeEquiv_self]

theorem zero2 : (![0, 0] : Fin 2 → Nat) = fun _ => 0 := funext fun a => by fin_cases a <;> rfl

/-- The staging buffer, loaded whole, is its contents; filled by a transfer, it is what the transfer carried. -/
theorem st_load (f : S256x1024.Idx → F .f32) :
    stM.view.readAt (Elt F) (Rect.unit (s := S256x1024) ![0, 0] S256x1024.size inb_S256x1024_S256x1024_0_0).toLoadRect f = f :=
  Memref.readAt_unit_zero (Elt F) cc0_scratch10 zero2 _ f
theorem st_fill (f w : S256x1024.Idx → F .f32) : stM.view.write (Elt F) f w Finset.univ = w :=
  View.write_whole_univ cc0_scratch10 _ _
theorem st_set : stM.view.set = Finset.univ := View.set_whole cc0_scratch10

/-! ## Semaphores -/

/-- The four families of semaphores that transfers between devices credit: departures and arrivals of the sends to the
    y neighbour, departures and arrivals of the passes to the x neighbour. -/
abbrev xsem (j : Fin 4) (k : Fin 32) : DmaSem sig :=
  match j with
  | 0 => ssem1 k
  | 1 => rsem1 k
  | 2 => ssem2 k
  | 3 => rsem2 k

theorem xsem_val (j : Fin 4) (k : Fin 32) : (xsem j k).val = 32 * j.val + k.val := by revert j k; decide +kernel
theorem xsem_val_lt (j : Fin 4) (k : Fin 32) : (xsem j k).val < 128 := by rw [xsem_val]; omega
/-- The four arrays of 32 semaphores have no semaphore in common. -/
theorem xsem_inj {j j' : Fin 4} {k k' : Fin 32} (h : xsem j k = xsem j' k') : j = j' ∧ k = k' := by
  have h' := congrArg Fin.val h
  rw [xsem_val, xsem_val] at h'
  exact ⟨Fin.ext (by omega), Fin.ext (by omega)⟩

theorem lx_val (s : Fin 2) : 128 ≤ (lxSem s).val := by revert s; decide +kernel
theorem lc_val (s : Fin 2) : 128 ≤ (lcSem s).val := by revert s; decide +kernel
theorem so_val (s : Fin 2) : 128 ≤ (stSem s).val := by revert s; decide +kernel
theorem sg_val : 128 ≤ (sgSem : DmaSem sig).val := by decide +kernel

/-- What a transferred block of the narrow format credits, and one of the wide format. -/
def NB : ℕ := (cRow (0 : Dev nD) false 0).view.dmaCredit
def NF : ℕ := (xRow (0 : Dev nD) false 0).view.dmaCredit

theorem NB_pos : 0 < NB := View.dmaCredit_pos _ (by decide)
theorem NF_pos : 0 < NF := View.dmaCredit_pos _ (by decide)

theorem cRow_credit (d : Dev nD) (b : Bool) (k : Fin 32) : (cRow d b k).view.dmaCredit = NB := rfl
theorem vsS_credit (s : Fin 4) : (vsS s).view.dmaCredit = NB := rfl
theorem vcS_credit (s : Fin 2) : (vcS s).view.dmaCredit = NB := rfl
theorem vxS_credit (s : Fin 2) : (vxS s).view.dmaCredit = NF := rfl
theorem voS_credit (s : Fin 2) : (voS s).view.dmaCredit = NF := rfl
theorem oRow_credit (d : Dev nD) (b : Bool) (k : Fin 32) : (oRow d b k).view.dmaCredit = NF := rfl
theorem stM_credit : stM.view.dmaCredit = NF := rfl

end Cert.KernelIdeal.Work

end
-- ==== Proof.Sched.lean ====
/-
  The protocol between the devices: what each semaphore's units stand for, with the contents of the blocks they hand
  over; what a device owes; the order in which semaphores may be waited on; and what a device holds between two steps
  of its body.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal Cert.KernelIdeal.Gen

variable {F : FTy → Type} [FloatOps F]

/-! ## Resources -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the protocol's records live: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev EC : UEmb Counters (MT nD τ sig Unit (Elt F) ℕ UU ℕ) := countersEmb

/-! ## Contents -/

/-- The inputs, one array a device. -/
abbrev Inp (F : FTy → Type) : Type := Dev nD → S16384x1024.Idx → F .f32

variable (X : Inp F)

/-- An array at the narrow format. -/
def narrow (x : S16384x1024.Idx → F .f32) : S16384x1024.Idx → F .bf16 := (truncf .bf16 x bitsLt_bf16_f32 : FVec F S16384x1024 .bf16)

/-- What a device has received in the end: on its own half its y neighbour's input, on the other half that of its x
    neighbour's y neighbour, at the narrow format. -/
def recvd (d : Dev nD) : S16384x1024.Idx → F .bf16 := fun i =>
  if (i 0).val / 8192 = d.val / 2 then narrow (X (ynbr d)) i else narrow (X (ynbr (xnbr d))) i

/-- The result on a device: its own input plus what it received, widened. -/
def result (d : Dev nD) : S16384x1024.Idx → F .f32 :=
  (addf (X d) (extf .f32 (recvd X d : FVec F S16384x1024 .bf16) bitsLt_bf16_f32) : FVec F S16384x1024 .f32)

/-- In its own half a device receives its y neighbour's rows, rounded. -/
theorem recvd_mine (d : Dev nD) (k : Fin 32) : ∀ i ∈ rows d false k, recvd X d i = narrow (X (ynbr d)) i := fun i hi => by
  have h := mem_rows.mp hi; unfold rowNo at h; rw [Bool.toNat_false] at h; have := dev_lt d
  exact if_pos (by omega)
/-- In the other half it receives the rows of its x neighbour's y neighbour, rounded. -/
theorem recvd_other (d : Dev nD) (k : Fin 32) : ∀ i ∈ rows d true k, recvd X d i = narrow (X (ynbr (xnbr d))) i := fun i hi => by
  have h := mem_rows.mp hi; unfold rowNo at h; rw [Bool.toNat_true] at h; have := dev_lt d
  exact if_neg (by omega)

/-- A block of an array on a device, held at contents `f`. -/
def xPts (d : Dev nD) (I : Finset S16384x1024.Idx) (q : PosShare TreeShare) (f : S16384x1024.Idx → F .f32) : sProp 𝕄 :=
  ((d : Thread nD τ).loc main_arg0) ↦[I]{q} f
def oPts (d : Dev nD) (I : Finset S16384x1024.Idx) (f : S16384x1024.Idx → F .f32) : sProp 𝕄 :=
  ((d : Thread nD τ).loc main_v1_0) ↦[I]{fullShare} f
def cPts (d : Dev nD) (I : Finset S16384x1024.Idx) (q : PosShare TreeShare) (f : S16384x1024.Idx → F .bf16) : sProp 𝕄 :=
  ((d : Thread nD τ).loc main_v1_1) ↦[I]{q} f
/-- A slot of a buffer, held at contents `f`. -/
def vxPts (d : Dev nD) (s : Fin 2) (f : S2x256x1024.Idx → F .f32) : sProp 𝕄 :=
  ((d : Thread nD τ).loc cc0_scratch4) ↦[(slot2 s).set]{fullShare} f
def vcPts (d : Dev nD) (s : Fin 2) (f : S2x256x1024.Idx → F .bf16) : sProp 𝕄 :=
  ((d : Thread nD τ).loc cc0_scratch5) ↦[(slot2 s).set]{fullShare} f
def voPts (d : Dev nD) (s : Fin 2) (f : S2x256x1024.Idx → F .f32) : sProp 𝕄 :=
  ((d : Thread nD τ).loc cc0_scratch6) ↦[(slot2 s).set]{fullShare} f
def vsPts (d : Dev nD) (s : Fin 4) (f : S4x256x1024.Idx → F .bf16) : sProp 𝕄 :=
  ((d : Thread nD τ).loc cc0_scratch11) ↦[(slot4 s).set]{fullShare} f

omit [FloatOps F] in
instance cPts_storable (d : Dev nD) (I) (q) (f) : BI.Storable (upEmb : UEmb _ 𝕄) (cPts (F := F) d I q f) := by unfold cPts; infer_instance
omit [FloatOps F] in
instance vsPts_storable (d : Dev nD) (s) (f) : BI.Storable (upEmb : UEmb _ 𝕄) (vsPts (F := F) d s f) := by unfold vsPts; infer_instance

/-! ## Cells and the schedule -/

abbrev bCell (c : Dev nD) : GSem nD τ sig := ((c : Thread nD τ), .reg barSem)
abbrev xCell (c : Dev nD) (j : Fin 4) (k : Fin 32) : GSem nD τ sig := ((c : Thread nD τ), .dma (xsem j k))

/-- What a neighbour's barrier unit hands over: the blocks of its receiving array that this device will write, at any
    contents (`false` the y neighbour, `true` the x neighbour). -/
def barPay (c : Dev nD) (b : Bool) : sProp 𝕄 :=
  bigSep Finset.univ fun k : Fin 32 => iprop(∃ f, cPts (if b then xnbr c else ynbr c) (rows (if b then xnbr c else ynbr c) b k) fullShare f)

/-- What a transfer's unit hands over: a send's departure its slot, an arrival the block at what was received, a pass's
    departure the share of the block it read. -/
def xPay (c : Dev nD) (j : Fin 4) (k : Fin 32) : sProp 𝕄 :=
  match j with
  | 0 => iprop(∃ f, vsPts c (sendSlot k.val) f)
  | 1 => cPts c (rows c false k) fullShare (recvd X c)
  | 2 => cPts c (rows c false k) fullShare.left (recvd X c)
  | 3 => cPts c (rows c true k) fullShare (recvd X c)

omit [FloatOps F] in
instance barPay_storable (c : Dev nD) (b : Bool) : BI.Storable (upEmb : UEmb _ 𝕄) (barPay (F := F) c b) := by unfold barPay; infer_instance
instance xPay_storable (c : Dev nD) (j : Fin 4) (k : Fin 32) : BI.Storable (upEmb : UEmb _ 𝕄) (xPay X c j k) := by
  unfold xPay; split <;> infer_instance

/-- The duties of a device's semaphore: the barrier's one to each neighbour, a transfer's one. -/
def semDuties (sm : SemLoc sig) : Finset Bool := match sm with
  | .reg s => if s = barSem then Finset.univ else ∅
  | .dma q => if q.val < 128 then {false} else ∅
theorem semDuties_bar : semDuties (.reg barSem) = Finset.univ := by
  unfold semDuties; dsimp only; rw [if_pos rfl]
theorem semDuties_xfer (j : Fin 4) (k : Fin 32) : semDuties (.dma (xsem j k)) = {false} := by
  unfold semDuties; dsimp only; rw [if_pos (xsem_val_lt j k)]

/-- One round: a barrier cell has a duty of one unit from each neighbour, a transfer cell one of a block's credit. -/
def linkRd : Rounds.Schedule (GSem nD τ sig) Bool 𝕄 where
  duties g r := if r = 0 ∧ g.1.2 = .tc then semDuties g.2 else ∅
  unitless _ := False
  amount g _ _ := match g.2 with
    | .reg _ => 1
    | .dma _ => NB
  payload g _ d := match g.2 with
    | .reg _ => barPay g.1.1 d
    | .dma q => if h : q.val < 128 then xPay X g.1.1 ⟨q.val / 32, by omega⟩ ⟨q.val % 32, by omega⟩ else iprop(emp)
  amount_pos g _ _ _ := by
    rcases g with ⟨_, s | q⟩
    · exact Nat.one_pos
    · exact NB_pos

instance linkRd_storable (g : GSem nD τ sig) (r : ℕ) (d : Bool) : BI.Storable (upEmb : UEmb _ 𝕄) ((linkRd X).payload g r d) := by
  rcases g with ⟨p, s | q⟩
  · show BI.Storable upEmb (barPay p.1 d); infer_instance
  · show BI.Storable upEmb (if h : q.val < 128 then xPay X p.1 ⟨q.val / 32, by omega⟩ ⟨q.val % 32, by omega⟩ else iprop(emp))
    split <;> infer_instance

theorem duties_tc (c : Dev nD) (sm : SemLoc sig) : (linkRd X).duties ((c : Thread nD τ), sm) 0 = semDuties sm := by
  show (if (0 : ℕ) = 0 ∧ (Proc.tc : Proc τ) = Proc.tc then semDuties sm else ∅) = _
  exact if_pos ⟨rfl, rfl⟩
theorem duties_bar (c : Dev nD) : (linkRd X).duties (bCell c) 0 = Finset.univ := by
  exact (duties_tc X c _).trans semDuties_bar
theorem duties_xfer (c : Dev nD) (j : Fin 4) (k : Fin 32) : (linkRd X).duties (xCell c j k) 0 = {false} := by
  exact (duties_tc X c _).trans (semDuties_xfer j k)
theorem duties_later (g : GSem nD τ sig) : ∀ r, 1 ≤ r → (linkRd X).duties g r = ∅ :=
  fun r hr => if_neg fun h => by omega
theorem amount_bar (c : Dev nD) (d : Bool) : (linkRd X).amount (bCell c) 0 d = 1 := rfl
theorem amount_xfer (c : Dev nD) (j : Fin 4) (k : Fin 32) (d : Bool) : (linkRd X).amount (xCell c j k) 0 d = NB := rfl
theorem payload_bar (c : Dev nD) (d : Bool) : (linkRd X).payload (bCell c) 0 d = barPay c d := rfl
theorem payload_xfer (c : Dev nD) (j : Fin 4) (k : Fin 32) (d : Bool) : (linkRd X).payload (xCell c j k) 0 d = xPay X c j k := by
  show (if h : (xsem j k).val < 128 then xPay X c ⟨(xsem j k).val / 32, _⟩ ⟨(xsem j k).val % 32, _⟩ else iprop(emp)) = _
  rw [dif_pos (xsem_val_lt j k)]
  congr 1
  · exact Fin.ext (by show (xsem j k).val / 32 = _; rw [xsem_val]; omega)
  · exact Fin.ext (by show (xsem j k).val % 32 = _; rw [xsem_val]; omega)
theorem expect_bar (c : Dev nD) : (linkRd X).expect (bCell c) 0 = 2 := by
  unfold Schedule.expect Schedule.amountOf
  rw [duties_bar, Finset.sum_congr rfl fun d _ => amount_bar X c d, Finset.sum_const, Finset.card_univ, Fintype.card_bool, smul_eq_mul]
theorem expect_xfer (c : Dev nD) (j : Fin 4) (k : Fin 32) : (linkRd X).expect (xCell c j k) 0 = NB := by
  unfold Schedule.expect Schedule.amountOf; rw [duties_xfer, Finset.sum_singleton, amount_xfer]
/-- What a wait on the barrier hands over. -/
theorem rest_bar (c : Dev nD) :
    bigSep ((linkRd X).duties (bCell c) 0 \ ∅) (fun d => (linkRd X).payload (bCell c) 0 d) = iprop(barPay c false ∗ barPay c true) := by
  rw [Finset.sdiff_empty, duties_bar, bigSep_univ_eq_bigSepL [false, true] (by decide) (by decide), bigSepL_cons_cons, bigSepL_singleton]
  rfl
/-- What a wait on a transfer's semaphore hands over. -/
theorem rest_xfer (c : Dev nD) (j : Fin 4) (k : Fin 32) :
    bigSep ((linkRd X).duties (xCell c j k) 0 \ ∅) (fun d => (linkRd X).payload (xCell c j k) 0 d) = xPay X c j k := by
  rw [Finset.sdiff_empty, duties_xfer, bigSep_singleton, payload_xfer]

/-! ## What a device owes; levels -/

/-- What a device owes once it has issued `ns` sends and `n` passes: the arrivals of the others. -/
def owe (c : Dev nD) (ns n : ℕ) : CellTallies nD τ sig Unit :=
  (∑ k : Fin 32, if ns ≤ k.val then tallyAt (xCell (ynbr c) 1 k) () NB else 0)
    + ∑ k : Fin 32, if n ≤ k.val then tallyAt (xCell (xnbr c) 3 k) () NB else 0
/-- What it owes at launch: that and a unit to each neighbour's barrier. -/
def owe₁ (c : Dev nD) : CellTallies nD τ sig Unit := owe c 0 0 + tallyAt (bCell (xnbr c)) () 1
/-- What a device owes at the launch. -/
def owe₀ (c : Dev nD) : CellTallies nD τ sig Unit := owe₁ c + tallyAt (bCell (ynbr c)) () 1

theorem sum_from {M : Type} [AddCommMonoid M] (f : Fin 32 → M) (k : Fin 32) :
    (∑ j : Fin 32, if k.val ≤ j.val then f j else 0) = (∑ j : Fin 32, if k.val + 1 ≤ j.val then f j else 0) + f k := by
  have e : ∀ j : Fin 32, (if k.val ≤ j.val then f j else 0) = (if k.val + 1 ≤ j.val then f j else 0) + (if j = k then f j else 0) := fun j => by
    by_cases h : j = k
    · subst h; rw [if_pos le_rfl, if_neg (by omega), if_pos rfl, zero_add]
    · rw [if_neg h, add_zero]
      have : j.val ≠ k.val := fun h' => h (Fin.ext h')
      by_cases h1 : k.val ≤ j.val
      · rw [if_pos h1, if_pos (by omega)]
      · rw [if_neg h1, if_neg (by omega)]
  rw [Finset.sum_congr rfl fun j _ => e j, Finset.sum_add_distrib, Finset.sum_ite_eq' Finset.univ k f, if_pos (Finset.mem_univ _)]

/-- A send pays the arrival that the device owed its y neighbour. -/
theorem owe_send (c : Dev nD) (k : Fin 32) (n : ℕ) : owe c k.val n = owe c (k.val + 1) n + tallyAt (xCell (ynbr c) 1 k) () NB := by
  unfold owe; rw [sum_from, add_right_comm]
/-- A pass pays the arrival that the device owed its x neighbour. -/
theorem owe_pass (c : Dev nD) (ns : ℕ) (k : Fin 32) : owe c ns k.val = owe c ns (k.val + 1) + tallyAt (xCell (xnbr c) 3 k) () NB := by
  unfold owe; rw [sum_from (fun k => tallyAt (xCell (xnbr c) 3 k) () NB), add_assoc]
/-- After every send and every pass a device owes nothing. -/
theorem owe_done (c : Dev nD) {ns n : ℕ} (h : 32 ≤ ns) (h' : 32 ≤ n) : owe c ns n = 0 := by
  unfold owe
  rw [Finset.sum_eq_zero fun k _ => if_neg (by omega), Finset.sum_eq_zero fun k _ => if_neg (by omega), add_zero]

theorem sum_pos_at {f : Fin 32 → CellTallies nD τ sig Unit} {g : GSem nD τ sig} {u : Unit} (h : 0 < (∑ k, f k) g u) : ∃ k, 0 < f k g u := by
  rw [Finset.sum_apply, Finsupp.finset_sum_apply] at h
  obtain ⟨k, -, hk⟩ := Finset.exists_ne_zero_of_sum_ne_zero (Nat.ne_of_gt h)
  exact ⟨k, Nat.pos_of_ne_zero hk⟩

/-- What a device still owes is an arrival of a block not yet sent or not yet passed on. -/
theorem owe_pos {c : Dev nD} {ns n : ℕ} {g : GSem nD τ sig} {u : Unit} (h : 0 < owe c ns n g u) :
    (∃ k : Fin 32, ns ≤ k.val ∧ g = xCell (ynbr c) 1 k) ∨ (∃ k : Fin 32, n ≤ k.val ∧ g = xCell (xnbr c) 3 k) := by
  unfold owe at h
  rw [Pi.add_apply, Finsupp.add_apply] at h
  rcases Nat.eq_zero_or_pos ((∑ k : Fin 32, if ns ≤ k.val then tallyAt (xCell (ynbr c) 1 k) () NB else 0 : CellTallies nD τ sig Unit) g u) with h0 | h0
  · rw [h0, Nat.zero_add] at h
    obtain ⟨k, hk⟩ := sum_pos_at h
    by_cases hn : n ≤ k.val
    · rw [if_pos hn, tallyAt_apply] at hk
      by_cases hg : g = xCell (xnbr c) 3 k ∧ u = ()
      · exact .inr ⟨k, hn, hg.1⟩
      · rw [if_neg hg] at hk; exact absurd hk (Nat.lt_irrefl 0)
    · rw [if_neg hn] at hk; exact absurd hk (Nat.lt_irrefl 0)
  · obtain ⟨k, hk⟩ := sum_pos_at h0
    by_cases hn : ns ≤ k.val
    · rw [if_pos hn, tallyAt_apply] at hk
      by_cases hg : g = xCell (ynbr c) 1 k ∧ u = ()
      · exact .inl ⟨k, hn, hg.1⟩
      · rw [if_neg hg] at hk; exact absurd hk (Nat.lt_irrefl 0)
    · rw [if_neg hn] at hk; exact absurd hk (Nat.lt_irrefl 0)

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier at 1; above it the arrivals in the order of their blocks, a pass's just above the send's of the same
    number; everything else at 0. -/
def lvS (sm : SemLoc sig) : ℕ := match sm with
  | .reg _ => 1
  | .dma q => if 32 ≤ q.val ∧ q.val < 64 then 2 * (q.val - 32) + 2 else if 96 ≤ q.val ∧ q.val < 128 then 2 * (q.val - 96) + 3 else 0
/-- The level of a semaphore. -/
def lv (g : GSem nD τ sig) (_ : Unit) : ℕ := lvS g.2

theorem lvS_xfer1 (k : Fin 32) : lvS (.dma (xsem 1 k)) = 2 * k.val + 2 := by
  show (if 32 ≤ (xsem 1 k).val ∧ (xsem 1 k).val < 64 then 2 * ((xsem 1 k).val - 32) + 2 else _) = _
  rw [xsem_val, if_pos ⟨by show 32 ≤ 32 * 1 + k.val; omega, by show 32 * 1 + k.val < 64; omega⟩]
  show 2 * (32 * 1 + k.val - 32) + 2 = _; omega
theorem lvS_xfer3 (k : Fin 32) : lvS (.dma (xsem 3 k)) = 2 * k.val + 3 := by
  show (if 32 ≤ (xsem 3 k).val ∧ (xsem 3 k).val < 64 then _ else if 96 ≤ (xsem 3 k).val ∧ (xsem 3 k).val < 128 then 2 * ((xsem 3 k).val - 96) + 3 else _) = _
  rw [xsem_val, if_neg (fun h => by have : 32 * 3 + k.val < 64 := h.2; omega),
    if_pos ⟨by show 96 ≤ 32 * 3 + k.val; omega, by show 32 * 3 + k.val < 128; omega⟩]
  show 2 * (32 * 3 + k.val - 96) + 3 = _; omega
theorem lvS_xfer0 (k : Fin 32) : lvS (.dma (xsem 0 k)) = 0 := by
  have h : (xsem 0 k).val = k.val := by rw [xsem_val]; show 32 * 0 + k.val = _; omega
  exact (if_neg fun h' => by have := h'.1; omega).trans (if_neg fun h' => by have := h'.1; omega)
theorem lvS_xfer2 (k : Fin 32) : lvS (.dma (xsem 2 k)) = 0 := by
  have h : (xsem 2 k).val = 64 + k.val := by rw [xsem_val]; show 32 * 2 + k.val = _; omega
  exact (if_neg fun h' => by have := h'.2; omega).trans (if_neg fun h' => by have := h'.1; omega)
theorem lvS_high {q : DmaSem sig} (h : 128 ≤ q.val) : lvS (.dma q) = 0 := by
  exact (if_neg fun h' => by have := h'.2; omega).trans (if_neg fun h' => by have := h'.2; omega)

omit [FloatOps F] in
/-- A semaphore below every arrival still owed may be waited on. -/
theorem mayWait (c : Dev nD) (sm : SemLoc sig) (ns n : ℕ) (h1 : ∀ k : ℕ, ns ≤ k → k < 32 → lvS sm < 2 * k + 2)
    (h2 : ∀ k : ℕ, n ≤ k → k < 32 → lvS sm < 2 * k + 3) :
    (levAts L lv : sProp 𝕄) ⊢ MayWait (c : Thread nD τ) sm () (owe c ns n) :=
  MayOwe.of_cut (L := L) (lev := lv) (lvS sm) (fun p hp => by rw [Finset.mem_singleton.mp hp, L_tc]; exact Finset.mem_singleton_self _)
    (fun g u hg => by rcases owe_pos hg with ⟨k, -, rfl⟩ | ⟨k, -, rfl⟩ <;> exact Finset.mem_singleton_self _)
    (fun p hp => by rw [Finset.mem_singleton.mp hp]; exact le_rfl)
    (fun g u hg => by
      rcases owe_pos hg with ⟨k, hk, rfl⟩ | ⟨k, hk, rfl⟩
      · exact lt_of_lt_of_eq (h1 k.val hk k.isLt) (lvS_xfer1 k).symm
      · exact lt_of_lt_of_eq (h2 k.val hk k.isLt) (lvS_xfer3 k).symm)

omit [FloatOps F] in
/-- A semaphore at level 0 always may. -/
theorem mayWait_low (c : Dev nD) (sm : SemLoc sig) (h : lvS sm = 0) (ns n : ℕ) :
    (levAts L lv : sProp 𝕄) ⊢ MayWait (c : Thread nD τ) sm () (owe c ns n) :=
  mayWait c sm ns n (fun k _ _ => by omega) (fun k _ _ => by omega)

/-! ## The records -/

/-- The cells: a device's barrier, and its transfer cells. -/
abbrev Cells : Type := Dev nD × Option (Fin 4 × Fin 32)
abbrev kcell (ck : Cells) : GSem nD τ sig := match ck.2 with
  | none => bCell ck.1
  | some p => xCell ck.1 p.1 p.2

/-- The cells' invariants under the names `K`, that each has reached its round, and the levels. -/
def records (K : Cells → ℕ) : sProp 𝕄 :=
  iprop((bigSep Finset.univ fun ck : Cells => cellInv ER (linkRd X) (K ck) (kcell ck))
    ∗ (bigSep Finset.univ fun ck : Cells => reached ER (kcell ck) 0) ∗ levAts L lv)

instance records_persistent (K : Cells → ℕ) : BI.Persistent (records X K) := by unfold records; infer_instance

/-- The shared records give the invariant of each cell. -/
theorem records_inv (K : Cells → ℕ) (ck : Cells) : records X K ⊢ cellInv ER (linkRd X) (K ck) (kcell ck) := by
  unfold records
  iintro ⟨H, -, -⟩
  iapply (show _ ⊢ cellInv ER (linkRd X) (K ck) (kcell ck) from bigSep_elim (Finset.mem_univ ck)) $$ H
theorem records_reached (K : Cells → ℕ) (ck : Cells) : records X K ⊢ reached ER (kcell ck) 0 := by
  unfold records
  iintro ⟨-, H, -⟩
  iapply (show _ ⊢ (reached ER (kcell ck) 0 : sProp 𝕄) from bigSep_elim (Finset.mem_univ ck)) $$ H
theorem records_lev (K : Cells → ℕ) : records X K ⊢ levAts L lv := by
  unfold records
  iintro ⟨-, -, H⟩
  iexact H

/-! ## What a device holds -/

/-- The sends to the y neighbour, `ws` departures awaited and `ns` issued. -/
def sendFam (c : Dev nD) (ws ns : ℕ) (k : Fin 32) : sProp 𝕄 :=
  if k.val < ws then semVal (xCell c 0 k) 0
  else if k.val < ns then iprop(atPos ER (xCell c 0 k) 0 ∅ 0 ∗ cred (tallyAt (xCell c 0 k) () NB))
  else iprop(atPos ER (xCell c 0 k) 0 ∅ 0 ∗ dutyTok ER (xCell c 0 k) 0 false ∗ dutyTok ER (xCell (ynbr c) 1 k) 0 false
    ∗ ∃ f, cPts (ynbr c) (rows (ynbr c) false k) fullShare f)

/-- The arrivals from the y neighbour, `nr` of them awaited, and the passes to the x neighbour, `n` of them issued. -/
def passFam (c : Dev nD) (nr n : ℕ) (k : Fin 32) : sProp 𝕄 :=
  iprop((if k.val < nr then semVal (xCell c 1 k) 0 else iprop(atPos ER (xCell c 1 k) 0 ∅ 0 ∗ cred (tallyAt (xCell c 1 k) () NB)))
    ∗ if k.val < n then iprop(cPts c (rows c false k) fullShare.right (recvd X c) ∗ atPos ER (xCell c 2 k) 0 ∅ 0 ∗ cred (tallyAt (xCell c 2 k) () NB))
      else iprop(atPos ER (xCell c 2 k) 0 ∅ 0 ∗ dutyTok ER (xCell c 2 k) 0 false ∗ dutyTok ER (xCell (xnbr c) 3 k) 0 false
        ∗ ∃ f, cPts (xnbr c) (rows (xnbr c) true k) fullShare f))

/-- The arrivals from the x neighbour, `n` of them awaited. -/
def recvFam (c : Dev nD) (n : ℕ) (k : Fin 32) : sProp 𝕄 :=
  if k.val < n then iprop(semVal (xCell c 3 k) 0 ∗ cPts c (rows c true k) fullShare (recvd X c))
  else iprop(atPos ER (xCell c 3 k) 0 ∅ 0 ∗ cred (tallyAt (xCell c 3 k) () NB))

end Cert.KernelIdeal.Work

end
-- ==== Proof.Pieces.lean ====
/-
  One theorem for each piece of the body, at a symbolic device, block and slot: what the piece needs and what it
  leaves. Each is stated for any continuation, so that the steps of the body are their composition.
-/
module

public import proofs.«01_k».proof.Proof.Sched

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)
open Cert.KernelIdeal Cert.KernelIdeal.Gen

variable {F : FTy → Type} [FloatOps F]

local notation "𝕄" => MT nD τ sig Unit (Elt F) ℕ UU ℕ

abbrev 𝒱₀ : Variants := Variants.none

/-- What device `c` owes, whatever it has waited on so far. -/
def owesE (c : Dev nD) (O : CellTallies nD τ sig Unit) : sProp 𝕄 := iprop(∃ W, owes (c : Thread nD τ) O W)

/-- The body's program `p` on device `c` runs to `Q`. -/
abbrev wpc (c : Dev nD) {α : Type} (p : Prog (K (F := F)) α) (Q : α → sProp 𝕄) : sProp 𝕄 :=
  wp frame (wpE (defs₀ (F := F)) 𝒱₀ (c : Thread nD τ) none) Set.univ p Q

/-- A program followed by another is run one after the other. -/
theorem wpc_bind (c : Dev nD) {α β : Type} (p : Prog (K (F := F)) α) (k : α → Prog (K (F := F)) β) (Q : β → sProp 𝕄) :
    wpc c (p >>= k) Q = wpc c p fun a => wpc c (k a) Q := wp_bind _ _ _ p k Q

variable (X : Inp F)

/-! ## The blocks and slots, as the views name them -/

omit [FloatOps F] in
theorem xPts_view (c : Dev nD) (b : Bool) (k : Fin 32) (q : PosShare TreeShare) (f : S16384x1024.Idx → F .f32) :
    (((xRow c b k).view.loc (c : Thread nD τ)) ↦[(xRow c b k).view.set]{q} f : sProp 𝕄) = xPts c (rows c b k) q f := by
  unfold xPts; exact congrArg (fun I : Finset S16384x1024.Idx => (((c : Thread nD τ).loc main_arg0) ↦[I]{q} f : sProp 𝕄)) (xRow_set c b k)
omit [FloatOps F] in
theorem cPts_view (c d : Dev nD) (b : Bool) (k : Fin 32) (q : PosShare TreeShare) (f : S16384x1024.Idx → F .bf16) :
    (((cRow c b k).view.loc (d : Thread nD τ)) ↦[(cRow c b k).view.set]{q} f : sProp 𝕄) = cPts d (rows c b k) q f := by
  unfold cPts; exact congrArg (fun I : Finset S16384x1024.Idx => (((d : Thread nD τ).loc main_v1_1) ↦[I]{q} f : sProp 𝕄)) (cRow_set c b k)
omit [FloatOps F] in
theorem oPts_view (c : Dev nD) (b : Bool) (k : Fin 32) (f : S16384x1024.Idx → F .f32) :
    (((oRow c b k).view.loc (c : Thread nD τ)) ↦[(oRow c b k).view.set]{fullShare} f : sProp 𝕄) = oPts c (rows c b k) f := by
  unfold oPts; exact congrArg (fun I : Finset S16384x1024.Idx => (((c : Thread nD τ).loc main_v1_0) ↦[I]{fullShare} f : sProp 𝕄)) (oRow_set c b k)
omit [FloatOps F] in
theorem vxPts_view (c : Dev nD) (s : Fin 2) (f : S2x256x1024.Idx → F .f32) :
    (((vxS s).view.loc (c : Thread nD τ)) ↦[(vxS s).view.set]{fullShare} f : sProp 𝕄) = vxPts c s f := by
  unfold vxPts; exact congrArg (fun I : Finset S2x256x1024.Idx => (((c : Thread nD τ).loc cc0_scratch4) ↦[I]{fullShare} f : sProp 𝕄)) (vxS_set s)
omit [FloatOps F] in
theorem vcPts_view (c : Dev nD) (s : Fin 2) (f : S2x256x1024.Idx → F .bf16) :
    (((vcS s).view.loc (c : Thread nD τ)) ↦[(vcS s).view.set]{fullShare} f : sProp 𝕄) = vcPts c s f := by
  unfold vcPts; exact congrArg (fun I : Finset S2x256x1024.Idx => (((c : Thread nD τ).loc cc0_scratch5) ↦[I]{fullShare} f : sProp 𝕄)) (vcS_set s)
omit [FloatOps F] in
theorem voPts_view (c : Dev nD) (s : Fin 2) (f : S2x256x1024.Idx → F .f32) :
    (((voS s).view.loc (c : Thread nD τ)) ↦[(voS s).view.set]{fullShare} f : sProp 𝕄) = voPts c s f := by
  unfold voPts; exact congrArg (fun I : Finset S2x256x1024.Idx => (((c : Thread nD τ).loc cc0_scratch6) ↦[I]{fullShare} f : sProp 𝕄)) (voS_set s)
omit [FloatOps F] in
theorem vsPts_view (c : Dev nD) (s : Fin 4) (f : S4x256x1024.Idx → F .bf16) :
    (((vsS s).view.loc (c : Thread nD τ)) ↦[(vsS s).view.set]{fullShare} f : sProp 𝕄) = vsPts c s f := by
  unfold vsPts; exact congrArg (fun I : Finset S4x256x1024.Idx => (((c : Thread nD τ).loc cc0_scratch11) ↦[I]{fullShare} f : sProp 𝕄)) (vsS_set s)

/-- Blocks whose contents agree on their own rows are the same block. -/
theorem oPts_congr {c : Dev nD} {I : Finset S16384x1024.Idx} {f g : S16384x1024.Idx → F .f32} (h : ∀ i ∈ I, f i = g i) :
    (oPts c I f : sProp 𝕄) = oPts c I g := by unfold oPts; exact pointsTo_congr h
theorem cPts_congr {c : Dev nD} {I : Finset S16384x1024.Idx} {q : PosShare TreeShare} {f g : S16384x1024.Idx → F .bf16} (h : ∀ i ∈ I, f i = g i) :
    (cPts c I q f : sProp 𝕄) = cPts c I q g := by unfold cPts; exact pointsTo_congr h

/-! ## Waits on transfers between devices -/

/-- A wait on a transfer's cell: its payload, and the counter back at zero. -/
theorem wp_waitXfer (Kn : Cells → ℕ) (c : Dev nD) (j : Fin 4) (k : Fin 32) (ns n : ℕ)
    (hmay : (levAts L lv : sProp 𝕄) ⊢ MayWait (c : Thread nD τ) (.dma (xsem j k)) () (owe c ns n))
    {sp sp' : Space} {s s' : Shape} {e e' : EltTy} {srcw : Memref sig .tc sp' s' e'} {dstw : Memref sig .tc sp s e}
    (hsrc : srcw.view.WordExact) (hdst : dstw.view.WordExact) (hN : dstw.view.dmaCredit = NB) (Q : PUnit → sProp 𝕄) :
    iprop(records X Kn ∗ atPos ER (xCell c j k) 0 ∅ 0 ∗ cred (tallyAt (xCell c j k) () NB) ∗ owesE c (owe c ns n))
      ⊢ iprop((iprop(xPay X c j k ∗ semVal (xCell c j k) 0 ∗ owesE c (owe c ns n)) -∗ Q ⟨⟩)
          -∗ wpc c (Prog.lift (.waitDma2 (xsem j k) srcw dstw hsrc hdst)) Q) := by
  unfold owesE
  iintro ⟨#HR, Hat, Hc, %W, HO⟩ Hk
  ihave #HI := (records_inv X Kn (c, some (j, k))) $$ HR
  ihave #HL := (records_lev X Kn) $$ HR
  simp only [Prog.lift]
  iapply (Rounds.wp_wait_rest_token 𝒱₀ ER (linkRd X) (c : Thread nD τ) none (κ := Kn (c, some (j, k)))
      (wpE_waitDma2_eq 𝒱₀ (c : Thread nD τ) none Set.univ) (Set.mem_univ _) () (O := owe c ns n) (W := W) (R := 0) (m := 0) (T := ∅)
      (by rw [Nat.zero_add, expect_xfer, hN])) $$ [Hc HO Hat]
  · isplitr; · iexact HI
    isplitl [Hc]; · rw [hN]; iexact Hc
    isplitl [HO]; · iexact HO
    isplitr; · iapply hmay; iexact HL
    iexact Hat
  iintro ⟨HO, Hat, -, Hpay⟩
  ihave Hp := (Entails.of_eq (rest_xfer X c j k)) $$ Hpay
  imod (Rounds.cell_close ER (linkRd X) (Set.mem_univ (Kn (c, some (j, k)))) (fun h => h) (R := 0 + 1) (duties_later X (xCell c j k))) $$ [Hat] with Hz
  · isplitr; · iexact HI
    iexact Hat
  rw [wp_ret]; imodintro
  iapply Hk
  isplitl [Hp]; · iexact Hp
  isplitl [Hz]; · iexact Hz
  iexists _; iexact HO

/-- A wait for a send to have left gives back its slot. -/
theorem wp_waitSent (Kn : Cells → ℕ) (c : Dev nD) (k : Fin 32) (s : Fin 4) (ns n : ℕ) (Q : PUnit → sProp 𝕄) :
    iprop(records X Kn ∗ atPos ER (xCell c 0 k) 0 ∅ 0 ∗ cred (tallyAt (xCell c 0 k) () NB) ∗ owesE c (owe c ns n))
      ⊢ iprop((iprop((∃ f, vsPts c (sendSlot k.val) f) ∗ semVal (xCell c 0 k) 0 ∗ owesE c (owe c ns n)) -∗ Q ⟨⟩)
          -∗ wpc c (waitSent c k s) Q) :=
  wp_waitXfer X Kn c 0 k ns n (mayWait_low c _ (lvS_xfer0 k) ns n) (srcw := cRow c false k) (dstw := vsS s) (commExact c false k) (vsExact s)
    (vsS_credit s) Q

/-- A wait for a block of the y neighbour gives the block with its rows. -/
theorem wp_waitRecv1 (Kn : Cells → ℕ) (c : Dev nD) (k : Fin 32) (s : Fin 4) (ns n : ℕ) (hns : k.val < ns ∨ 32 ≤ ns) (hn : k.val ≤ n) (Q : PUnit → sProp 𝕄) :
    iprop(records X Kn ∗ atPos ER (xCell c 1 k) 0 ∅ 0 ∗ cred (tallyAt (xCell c 1 k) () NB) ∗ owesE c (owe c ns n))
      ⊢ iprop((iprop(cPts c (rows c false k) fullShare (recvd X c) ∗ semVal (xCell c 1 k) 0 ∗ owesE c (owe c ns n)) -∗ Q ⟨⟩)
          -∗ wpc c (waitRecv1 c k s) Q) :=
  wp_waitXfer X Kn c 1 k ns n (mayWait c _ ns n (fun k' h _ => by rw [lvS_xfer1]; omega) (fun k' h _ => by rw [lvS_xfer1]; omega))
    (srcw := vsS s) (dstw := cRow c false k) (vsExact s) (commExact c false k) (cRow_credit c false k) Q

/-- A wait for a block passed on by the x neighbour gives the block with its rows. -/
theorem wp_waitRecv2 (Kn : Cells → ℕ) (c : Dev nD) (k : Fin 32) (ns n : ℕ) (hns : k.val + 1 < ns ∨ 32 ≤ ns) (hn : k.val < n ∨ 32 ≤ n) (Q : PUnit → sProp 𝕄) :
    iprop(records X Kn ∗ atPos ER (xCell c 3 k) 0 ∅ 0 ∗ cred (tallyAt (xCell c 3 k) () NB) ∗ owesE c (owe c ns n))
      ⊢ iprop((iprop(cPts c (rows c true k) fullShare (recvd X c) ∗ semVal (xCell c 3 k) 0 ∗ owesE c (owe c ns n)) -∗ Q ⟨⟩)
          -∗ wpc c (waitRecv2 c k) Q) :=
  wp_waitXfer X Kn c 3 k ns n (mayWait c _ ns n (fun k' h _ => by rw [lvS_xfer3]; omega) (fun k' h _ => by rw [lvS_xfer3]; omega))
    (srcw := cRow c false k) (dstw := cRow c false k) (commExact c false k) (commExact c false k) (cRow_credit c false k) Q

/-- A wait for a pass to have left gives back the share of the block that the copy was reading. -/
theorem wp_waitPassed (Kn : Cells → ℕ) (c : Dev nD) (k : Fin 32) (ns n : ℕ) (Q : PUnit → sProp 𝕄) :
    iprop(records X Kn ∗ atPos ER (xCell c 2 k) 0 ∅ 0 ∗ cred (tallyAt (xCell c 2 k) () NB) ∗ owesE c (owe c ns n))
      ⊢ iprop((iprop(cPts c (rows c false k) fullShare.left (recvd X c) ∗ semVal (xCell c 2 k) 0 ∗ owesE c (owe c ns n)) -∗ Q ⟨⟩)
          -∗ wpc c (waitPassed c k) Q) :=
  wp_waitXfer X Kn c 2 k ns n (mayWait_low c _ (lvS_xfer2 k) ns n) (srcw := cRow c false k) (dstw := cRow c false k) (commExact c false k)
    (commExact c false k) (cRow_credit c false k) Q

/-! ## Local transfers -/

/-- A wait on a local transfer: what it delivers, and the counter back at zero. -/
theorem wp_waitHere (Kn : Cells → ℕ) (c : Dev nD) (sm : DmaSem sig) (hsm : 128 ≤ sm.val) (N : ℕ) (D : sProp 𝕄) (ns n : ℕ)
    {sp sp' : Space} {s s' : Shape} {e e' : EltTy} {srcw : Memref sig .tc sp' s' e'} {dstw : Memref sig .tc sp s e}
    (hsrc : srcw.view.WordExact) (hdst : dstw.view.WordExact) (hN : dstw.view.dmaCredit = N) (Q : PUnit → sProp 𝕄) :
    iprop(records X Kn ∗ Flight EC (c : Thread nD τ) (.dma sm) () N D ∗ owesE c (owe c ns n))
      ⊢ iprop((iprop(D ∗ semVal ((c : Thread nD τ), .dma sm) 0 ∗ owesE c (owe c ns n)) -∗ Q ⟨⟩)
          -∗ wpc c (Prog.lift (.waitDma2 sm srcw dstw hsrc hdst)) Q) := by
  unfold owesE
  iintro ⟨#HR, Hf, %W, HO⟩ Hk
  ihave #HL := (records_lev X Kn) $$ HR
  simp only [Prog.lift]
  iapply (wp_waitLocalO EC 𝒱₀ (c : Thread nD τ) none () hN (O := owe c ns n) (W := W)) $$ [Hf HO]
  · isplitl [Hf]; · iexact Hf
    isplitl [HO]; · iexact HO
    iapply (mayWait_low c (.dma sm) (lvS_high hsm) ns n); iexact HL
  iintro ⟨HD, Hz, HO⟩
  rw [wp_ret]; imodintro
  iapply Hk
  isplitl [HD]; · iexact HD
  isplitl [Hz]; · iexact Hz
  iexists _; iexact HO

/-- A load of a block of the own input in flight, at share `q` of the block. -/
def loadingX (c : Dev nD) (b : Bool) (k : Fin 32) (s : Fin 2) (q : PosShare TreeShare) : sProp 𝕄 :=
  Flight EC (c : Thread nD τ) (.dma (lxSem s)) () NF
    iprop((∃ f, ⌜(vxS s).view.read (Elt F) f = (xRow c b k).view.read (Elt F) (X c)⌝ ∗ vxPts c s f) ∗ xPts c (rows c b k) q (X c))
/-- A load of a received block in flight. -/
def loadingC (c : Dev nD) (b : Bool) (k : Fin 32) (s : Fin 2) (q : PosShare TreeShare) : sProp 𝕄 :=
  Flight EC (c : Thread nD τ) (.dma (lcSem s)) () NB
    iprop((∃ f, ⌜(vcS s).view.read (Elt F) f = (cRow c b k).view.read (Elt F) (recvd X c)⌝ ∗ vcPts c s f) ∗ cPts c (rows c b k) q (recvd X c))
/-- A store of a block of the result in flight. -/
def storing (c : Dev nD) (b : Bool) (k : Fin 32) (s : Fin 2) : sProp 𝕄 :=
  Flight EC (c : Thread nD τ) (.dma (stSem s)) () NF iprop(oPts c (rows c b k) (result X c) ∗ ∃ f, voPts c s f)

/-- What a finished load leaves in its slot reads as the block it loaded. -/
theorem loadedX (c : Dev nD) (b : Bool) (k : Fin 32) (s : Fin 2) (q : PosShare TreeShare) (f : S2x256x1024.Idx → F .f32) :
    iprop((((vxS s).view.loc (c : Thread nD τ)) ↦[(vxS s).view.set]{fullShare}
            ((vxS s).view.write (Elt F) f ((ReadAs.same : ReadAs (Elt F) S256x1024 .f32 S256x1024 .f32).apply ((xRow c b k).view.read (Elt F) (X c))) Finset.univ))
          ∗ (((xRow c b k).view.loc (c : Thread nD τ)) ↦[(xRow c b k).view.set]{q} X c))
      ⊢ (iprop((∃ f, ⌜(vxS s).view.read (Elt F) f = (xRow c b k).view.read (Elt F) (X c)⌝ ∗ vxPts c s f) ∗ xPts c (rows c b k) q (X c)) : sProp 𝕄) := by
  rw [xPts_view, vxPts_view]
  iintro ⟨H1, H2⟩
  isplitl [H1]
  · iexists _
    isplitl []
    rotate_left
    · iexact H1
    · ipureintro; exact View.read_write_univ _ _
  · iexact H2
/-- A slot into which a received block was copied reads as that block. -/
theorem loadedC (c : Dev nD) (b : Bool) (k : Fin 32) (s : Fin 2) (q : PosShare TreeShare) (f : S2x256x1024.Idx → F .bf16) :
    iprop((((vcS s).view.loc (c : Thread nD τ)) ↦[(vcS s).view.set]{fullShare}
            ((vcS s).view.write (Elt F) f ((ReadAs.same : ReadAs (Elt F) S256x1024 .bf16 S256x1024 .bf16).apply ((cRow c b k).view.read (Elt F) (recvd X c))) Finset.univ))
          ∗ (((cRow c b k).view.loc (c : Thread nD τ)) ↦[(cRow c b k).view.set]{q} recvd X c))
      ⊢ (iprop((∃ f, ⌜(vcS s).view.read (Elt F) f = (cRow c b k).view.read (Elt F) (recvd X c)⌝ ∗ vcPts c s f) ∗ cPts c (rows c b k) q (recvd X c)) : sProp 𝕄) := by
  rw [cPts_view, vcPts_view]
  iintro ⟨H1, H2⟩
  isplitl [H1]
  · iexists _
    isplitl []
    rotate_left
    · iexact H1
    · ipureintro; exact View.read_write_univ _ _
  · iexact H2

/-- The start of a load of a block of the argument. -/
theorem wp_loadX (c : Dev nD) (b : Bool) (k : Fin 32) (s : Fin 2) (q : PosShare TreeShare) (Q : PUnit → sProp 𝕄) :
    iprop(xPts c (rows c b k) q (X c) ∗ (∃ f, vxPts c s f) ∗ semVal ((c : Thread nD τ), .dma (lxSem s)) 0)
      ⊢ iprop((loadingX X c b k s q -∗ Q ⟨⟩) -∗ wpc c (loadX c b k s) Q) := by
  unfold loadX loadingX
  iintro ⟨Hx, ⟨%f, Hv⟩, Hz⟩ Hk
  simp only [Prog.lift]
  iapply (wp_dmaLocal EC 𝒱₀ (c : Thread nD τ) none (src := xRow c b k) (dst := vxS s) (sm := .dma (lxSem s)) (fs := X c) (fd := f) (q := q)
      () NF (vxS_credit s) NF_pos (Finset.Subset.refl _)) $$ [Hx Hv Hz]
  · isplitl [Hx]; · iapply (Entails.of_eq (xPts_view c b k q (X c)).symm); iexact Hx
    isplitl [Hv]; · iapply (Entails.of_eq (vxPts_view c s f).symm); iexact Hv
    iexact Hz
  iintro Hf
  rw [wp_ret]; imodintro
  iapply Hk
  iapply (Flight_mono EC (c : Thread nD τ) (loadedX X c b k s q f)) $$ Hf

/-- The start of a load of a received block. -/
theorem wp_loadC (c : Dev nD) (b : Bool) (k : Fin 32) (s : Fin 2) (q : PosShare TreeShare) (Q : PUnit → sProp 𝕄) :
    iprop(cPts c (rows c b k) q (recvd X c) ∗ (∃ f, vcPts c s f) ∗ semVal ((c : Thread nD τ), .dma (lcSem s)) 0)
      ⊢ iprop((loadingC X c b k s q -∗ Q ⟨⟩) -∗ wpc c (loadC c b k s) Q) := by
  unfold loadC loadingC
  iintro ⟨Hx, ⟨%f, Hv⟩, Hz⟩ Hk
  simp only [Prog.lift]
  iapply (wp_dmaLocal EC 𝒱₀ (c : Thread nD τ) none (src := cRow c b k) (dst := vcS s) (sm := .dma (lcSem s)) (fs := recvd X c) (fd := f) (q := q)
      () NB (vcS_credit s) NB_pos (Finset.Subset.refl _)) $$ [Hx Hv Hz]
  · isplitl [Hx]; · iapply (Entails.of_eq (cPts_view c c b k q (recvd X c)).symm); iexact Hx
    isplitl [Hv]; · iapply (Entails.of_eq (vcPts_view c s f).symm); iexact Hv
    iexact Hz
  iintro Hf
  rw [wp_ret]; imodintro
  iapply Hk
  iapply (Flight_mono EC (c : Thread nD τ) (loadedC X c b k s q f)) $$ Hf

/-- The wait for a load of a block of the argument. -/
theorem wp_waitX (Kn : Cells → ℕ) (c : Dev nD) (b : Bool) (k : Fin 32) (s : Fin 2) (q : PosShare TreeShare) (ns n : ℕ) (Q : PUnit → sProp 𝕄) :
    iprop(records X Kn ∗ loadingX X c b k s q ∗ owesE c (owe c ns n))
      ⊢ iprop((iprop(((∃ f, ⌜(vxS s).view.read (Elt F) f = (xRow c b k).view.read (Elt F) (X c)⌝ ∗ vxPts c s f) ∗ xPts c (rows c b k) q (X c))
            ∗ semVal ((c : Thread nD τ), .dma (lxSem s)) 0 ∗ owesE c (owe c ns n)) -∗ Q ⟨⟩) -∗ wpc c (waitX c b k s) Q) :=
  wp_waitHere X Kn c (lxSem s) (lx_val s) NF _ ns n (srcw := xRow c b k) (dstw := vxS s) (View.wordExact_bits rfl)
    ((View.wordExact_bits rfl).reshape _ _) (vxS_credit s) Q
/-- The wait for a load of a received block. -/
theorem wp_waitC (Kn : Cells → ℕ) (c : Dev nD) (b : Bool) (k : Fin 32) (s : Fin 2) (q : PosShare TreeShare) (ns n : ℕ) (Q : PUnit → sProp 𝕄) :
    iprop(records X Kn ∗ loadingC X c b k s q ∗ owesE c (owe c ns n))
      ⊢ iprop((iprop(((∃ f, ⌜(vcS s).view.read (Elt F) f = (cRow c b k).view.read (Elt F) (recvd X c)⌝ ∗ vcPts c s f) ∗ cPts c (rows c b k) q (recvd X c))
            ∗ semVal ((c : Thread nD τ), .dma (lcSem s)) 0 ∗ owesE c (owe c ns n)) -∗ Q ⟨⟩) -∗ wpc c (waitC c b k s) Q) :=
  wp_waitHere X Kn c (lcSem s) (lc_val s) NB _ ns n (srcw := cRow c b k) (dstw := vcS s) (commExact c b k) (vcExact s) (vcS_credit s) Q
/-- The wait for a block of the result to be written. -/
theorem wp_waitOut (Kn : Cells → ℕ) (c : Dev nD) (b : Bool) (k : Fin 32) (s : Fin 2) (ns n : ℕ) (Q : PUnit → sProp 𝕄) :
    iprop(records X Kn ∗ storing X c b k s ∗ owesE c (owe c ns n))
      ⊢ iprop((iprop((oPts c (rows c b k) (result X c) ∗ ∃ f, voPts c s f)
            ∗ semVal ((c : Thread nD τ), .dma (stSem s)) 0 ∗ owesE c (owe c ns n)) -∗ Q ⟨⟩) -∗ wpc c (waitOut c b k s) Q) :=
  wp_waitHere X Kn c (stSem s) (so_val s) NF _ ns n (srcw := voS s) (dstw := oRow c b k) ((View.wordExact_bits rfl).reshape _ _)
    (View.wordExact_bits rfl) (oRow_credit c b k) Q

/-! ## The sum -/

/-- What is stored in the output slot reads as the block of the result. -/
theorem sum_read (c : Dev nD) (b : Bool) (k : Fin 32) (s : Fin 2) (f : S2x256x1024.Idx → F .f32) (g : S2x256x1024.Idx → F .bf16) (h : S2x256x1024.Idx → F .f32)
    (hf : (vxS s).view.read (Elt F) f = (xRow c b k).view.read (Elt F) (X c))
    (hg : (vcS s).view.read (Elt F) g = (cRow c b k).view.read (Elt F) (recvd X c)) (j : S256x1024.Idx) :
    (voS s).view.read (Elt F) ((voM.access (slot2 s)).write (Elt F) h
      (payOut ((vxM.access (slot2 s)).read (Elt F) f) ((vcM.access (slot2 s)).read (Elt F) g)) Finset.univ) j
      = result X c ((rowRect c b k).emb j) := by
  rw [vo_store, vx_load, vc_load, hf, hg]
  rfl

/-- A block of the result into which a slot was copied holds the result. -/
theorem stored (c : Dev nD) (b : Bool) (k : Fin 32) (s : Fin 2) (f : S2x256x1024.Idx → F .f32) (g : S16384x1024.Idx → F .f32)
    (h : ∀ j, (voS s).view.read (Elt F) f j = result X c ((rowRect c b k).emb j)) :
    iprop((((oRow c b k).view.loc (c : Thread nD τ)) ↦[(oRow c b k).view.set]{fullShare}
            ((oRow c b k).view.write (Elt F) g ((ReadAs.same : ReadAs (Elt F) S256x1024 .f32 S256x1024 .f32).apply ((voS s).view.read (Elt F) f)) Finset.univ))
          ∗ (((voS s).view.loc (c : Thread nD τ)) ↦[(voS s).view.set]{fullShare} f))
      ⊢ (iprop(oPts c (rows c b k) (result X c) ∗ ∃ f, voPts c s f) : sProp 𝕄) := by
  rw [oPts_view, voPts_view, oPts_congr (oRow_write c b k g (result X c) _ h)]
  iintro ⟨H1, H2⟩
  isplitl [H1]; · iexact H1
  iexists _; iexact H2

/-- The sum of the two loaded blocks, put into its slot. -/
theorem wp_combine (c : Dev nD) (b : Bool) (k : Fin 32) (s : Fin 2) (Q : PUnit → sProp 𝕄) :
    iprop((∃ f, ⌜(vxS s).view.read (Elt F) f = (xRow c b k).view.read (Elt F) (X c)⌝ ∗ vxPts c s f)
        ∗ (∃ f, ⌜(vcS s).view.read (Elt F) f = (cRow c b k).view.read (Elt F) (recvd X c)⌝ ∗ vcPts c s f)
        ∗ (∃ f, voPts c s f) ∗ (∃ f, oPts c (rows c b k) f) ∗ semVal ((c : Thread nD τ), .dma (stSem s)) 0)
      ⊢ iprop((iprop(storing X c b k s ∗ (∃ f, vxPts c s f) ∗ (∃ f, vcPts c s f)) -∗ Q ⟨⟩) -∗ wpc c (combine c b k s) Q) := by
  unfold combine storing
  iintro ⟨⟨%f, %hf, Hx⟩, ⟨%g, %hg, Hc⟩, ⟨%h, Ho⟩, ⟨%o, Hr⟩, Hz⟩ Hk
  simp only [Prog.lift, Prog.bind_op, Prog.bind_ret]
  unfold vxPts vcPts voPts
  iapply (wp_load_rect 𝒱₀ (c : Thread nD τ) none Set.univ (m := vxM) (r := slot2 s) (Finset.subset_of_eq (vxA_set s))) $$ Hx; iintro Hx
  iapply (wp_load_rect 𝒱₀ (c : Thread nD τ) none Set.univ (m := vcM) (r := slot2 s) (Finset.subset_of_eq (vcA_set s))) $$ Hc; iintro Hc
  iapply (wp_load_rect 𝒱₀ (c : Thread nD τ) none Set.univ (m := voM) (r := slot2 s) (Finset.subset_of_eq (voA_set s))) $$ Ho; iintro Ho
  iapply (wp_store 𝒱₀ (c : Thread nD τ) none Set.univ (m := voM) (r := slot2 s) (Mk := Finset.univ) (Finset.subset_of_eq (voA_set s))) $$ Ho; iintro Ho
  have hs := sum_read X c b k s f g h hf hg
  generalize (voM.access (slot2 s)).write (Elt F) h
      (payOut ((vxM.access (slot2 s)).read (Elt F) f) ((vcM.access (slot2 s)).read (Elt F) g)) Finset.univ = p at hs ⊢
  iapply (wp_dmaLocal EC 𝒱₀ (c : Thread nD τ) none (src := voS s) (dst := oRow c b k) (sm := .dma (stSem s)) (fs := p) (fd := o) (q := fullShare)
      () NF (oRow_credit c b k) NF_pos (Finset.Subset.refl _)) $$ [Ho Hr Hz]
  · isplitl [Ho]; · iapply (Entails.of_eq (voPts_view c s p).symm); unfold voPts; iexact Ho
    isplitl [Hr]; · iapply (Entails.of_eq (oPts_view c b k o).symm); iexact Hr
    iexact Hz
  iintro Hf
  rw [wp_ret]; imodintro
  iapply Hk
  isplitl [Hf]
  · iapply (Flight_mono EC (c : Thread nD τ) (stored X c b k s p o hs)) $$ Hf
  isplitl [Hx]
  · iexists _; iexact Hx
  · iexists _; iexact Hc

/-! ## Sends and passes -/

/-- What arrives at the y neighbour. -/
theorem sent_read (c : Dev nD) (k : Fin 32) (s : Fin 4) (f : S4x256x1024.Idx → F .bf16) (j : S256x1024.Idx) :
    (vsS s).view.read (Elt F) ((vsM.access (slot4 s)).write (Elt F) f (paySend ((ReadAs.same : ReadAs (Elt F) S256x1024 .f32 S256x1024 .f32).apply ((xRow c false k).view.read (Elt F) (X c)))) Finset.univ) j
      = narrow (X c) ((rowRect c false k).emb j) := by
  rw [vs_store]
  rfl

/-- What a send leaves at the y neighbour is what its arrival has to hand over. -/
theorem arrive1 (c : Dev nD) (k : Fin 32) (s : Fin 4) (f : S4x256x1024.Idx → F .bf16) (g : S16384x1024.Idx → F .bf16)
    (h : ∀ j, (vsS s).view.read (Elt F) f j = narrow (X c) ((rowRect c false k).emb j)) :
    (((cRow c false k).view.loc (ynbr c : Thread nD τ)) ↦[(cRow c false k).view.set]{fullShare}
        ((cRow c false k).view.write (Elt F) g ((vsS s).view.read (Elt F) f) Finset.univ))
      ⊢ (xPay X (ynbr c) 1 k : sProp 𝕄) := by
  show _ ⊢ cPts (ynbr c) (rows (ynbr c) false k) fullShare (recvd X (ynbr c))
  rw [cPts_view, rows_ynbr]
  refine Entails.of_eq (cPts_congr fun i hi => (cRow_write c false k g (narrow (X c)) _ h i hi).trans ?_)
  rw [recvd_mine X (ynbr c) k i (by rw [rows_ynbr]; exact hi), ynbr_ynbr]

/-- What a pass leaves at the x neighbour is what its arrival has to hand over. -/
theorem arrive2 (c : Dev nD) (k : Fin 32) (g : S16384x1024.Idx → F .bf16) :
    (((cRow c false k).view.loc (xnbr c : Thread nD τ)) ↦[(cRow c false k).view.set]{fullShare}
        ((cRow c false k).view.write (Elt F) g ((cRow c false k).view.read (Elt F) (recvd X c)) Finset.univ))
      ⊢ (xPay X (xnbr c) 3 k : sProp 𝕄) := by
  have hr : rows (xnbr c) true k = rows c false k := rows_xnbr c false k
  show _ ⊢ cPts (xnbr c) (rows (xnbr c) true k) fullShare (recvd X (xnbr c))
  rw [cPts_view, hr]
  refine Entails.of_eq (cPts_congr fun i hi => (cRow_write c false k g (recvd X c) _ (fun j => rfl) i hi).trans ?_)
  rw [recvd_mine X c k i hi, recvd_other X (xnbr c) k i (by rw [hr]; exact hi), xnbr_xnbr]

/-- A send: the block staged, rounded, and sent to the y neighbour. -/
theorem wp_send (Kn : Cells → ℕ) (c : Dev nD) (k : Fin 32) (q : PosShare TreeShare) (n : ℕ) (Q : PUnit → sProp 𝕄) :
    iprop(records X Kn ∗ (xPts c (rows c false k) q (X c) ∗ semVal ((c : Thread nD τ), .dma sgSem) 0
          ∗ ∃ f, ((c : Thread nD τ).loc cc0_scratch10) ↦{fullShare} f)
        ∗ (∃ f, vsPts c (sendSlot k.val) f) ∗ owesE c (owe c k.val n)
        ∗ dutyTok ER (xCell c 0 k) 0 false ∗ dutyTok ER (xCell (ynbr c) 1 k) 0 false ∗ ∃ f, cPts (ynbr c) (rows (ynbr c) false k) fullShare f)
      ⊢ iprop((iprop((xPts c (rows c false k) q (X c) ∗ semVal ((c : Thread nD τ), .dma sgSem) 0
          ∗ ∃ f, ((c : Thread nD τ).loc cc0_scratch10) ↦{fullShare} f)
        ∗ owesE c (owe c (k.val + 1) n) ∗ cred (tallyAt (xCell c 0 k) () NB)) -∗ Q ⟨⟩) -∗ wpc c (send c k (sendSlot k.val)) Q) := by
  have hr : rows (ynbr c) false k = rows c false k := rows_ynbr c false k
  generalize hs : sendSlot k.val = s
  unfold send owesE
  iintro ⟨#HR, ⟨Hx, Hz, %t, Ht⟩, ⟨%f, Hv⟩, ⟨%W, HO⟩, Hd0, Hd1, %g, Hg⟩ Hk
  ihave #HI0 := (records_inv X Kn (c, some (0, k))) $$ HR
  ihave #HI1 := (records_inv X Kn (ynbr c, some (1, k))) $$ HR
  ihave #Hr0 := (records_reached X Kn (c, some (0, k))) $$ HR
  ihave #Hr1 := (records_reached X Kn (ynbr c, some (1, k))) $$ HR
  ihave #HL := (records_lev X Kn) $$ HR
  simp only [Prog.lift, Prog.bind_op, Prog.bind_ret]
  -- the block into the staging buffer
  iapply (wp_dmaLocal EC 𝒱₀ (c : Thread nD τ) none (src := xRow c false k) (dst := stM) (sm := .dma sgSem) (fs := X c) (fd := t) (q := q)
      (Sd := Finset.univ) () NF stM_credit NF_pos (Finset.subset_univ _)) $$ [Hx Ht Hz]
  · isplitl [Hx]; · iapply (Entails.of_eq (xPts_view c false k q (X c)).symm); iexact Hx
    isplitl [Ht]; · iexact Ht
    iexact Hz
  iintro Hf
  iapply (wp_waitLocalO EC 𝒱₀ (c : Thread nD τ) none () stM_credit (O := owe c k.val n) (W := W)) $$ [Hf HO]
  · isplitl [Hf]; · iexact Hf
    isplitl [HO]; · iexact HO
    iapply (mayWait_low c (.dma sgSem) (lvS_high sg_val) k.val n); iexact HL
  iintro ⟨⟨Ht, Hx⟩, Hz, HO⟩
  rw [st_fill]
  iapply (wp_load 𝒱₀ (c : Thread nD τ) none Set.univ (m := stM) (Finset.subset_univ _)) $$ Ht; iintro Ht
  rw [st_load]
  unfold vsPts
  iapply (wp_load_rect 𝒱₀ (c : Thread nD τ) none Set.univ (m := vsM) (r := slot4 s) (Finset.subset_of_eq (vsA_set s))) $$ Hv; iintro Hv
  iapply (wp_store 𝒱₀ (c : Thread nD τ) none Set.univ (m := vsM) (r := slot4 s) (Mk := Finset.univ) (Finset.subset_of_eq (vsA_set s))) $$ Hv; iintro Hv
  have hp := sent_read X c k s f
  generalize (vsM.access (slot4 s)).write (Elt F) f (paySend ((ReadAs.same : ReadAs (Elt F) S256x1024 .f32 S256x1024 .f32).apply ((xRow c false k).view.read (Elt F) (X c)))) Finset.univ = p at hp ⊢
  iapply (Rounds.wp_send_pointsTo 𝒱₀ ER (linkRd X) (c : Thread nD τ) none (c' := (ynbr c : Thread nD τ)) (κ₁ := Kn (c, some (0, k))) (κ₂ := Kn (ynbr c, some (1, k)))
      (src := vsS s) (dst := cRow c false k) (sS := .dma (xsem 0 k)) (sem := .dma (xsem 1 k)) (q := fullShare) (fs := p)
      (r₁ := 0) (r₂ := 0) (d₁ := false) (d₂ := false) (fd := g)
      (by rw [duties_xfer]; exact Finset.mem_singleton_self _) (by rw [duties_xfer]; exact Finset.mem_singleton_self _)
      () () NB (cRow_credit c false k) (amount_xfer X c 0 k false) (amount_xfer X (ynbr c) 1 k false) (owe c (k.val + 1) n) (owe_send c k n)
      (by rw [payload_xfer, vsPts_view, ← hs]; exact sProp.exists_intro p) (by rw [payload_xfer]; exact arrive1 X c k s p g hp))
    $$ [Hv Hg HO Hd0 Hd1]
  · isplitr; · iexact HI0
    isplitr; · iexact HI1
    isplitl [Hv]; · iapply (Entails.of_eq (vsPts_view c s p).symm); unfold vsPts; iexact Hv
    isplitl [Hg]; · iapply (Entails.of_eq (cPts_view c (ynbr c) false k fullShare g).symm); rw [← hr]; iexact Hg
    isplitl [HO]; · iexact HO
    isplitl [Hd0]; · iexact Hd0
    isplitr; · iexact Hr0
    isplitl [Hd1]; · iexact Hd1
    iexact Hr1
  iintro ⟨Hc, HO⟩
  rw [wp_ret]; imodintro
  iapply Hk
  isplitl [Hx Hz Ht]
  · isplitl [Hx]; · iapply (Entails.of_eq (xPts_view c false k q (X c))); iexact Hx
    isplitl [Hz]; · iexact Hz
    iexists _; iexact Ht
  isplitl [HO]; · iexists _; iexact HO
  iexact Hc

/-- A pass: a block that came from the y neighbour sent on to the x neighbour. -/
theorem wp_forward (Kn : Cells → ℕ) (c : Dev nD) (k : Fin 32) (ns : ℕ) (Q : PUnit → sProp 𝕄) :
    iprop(records X Kn ∗ cPts c (rows c false k) fullShare.left (recvd X c) ∗ owesE c (owe c ns k.val)
        ∗ dutyTok ER (xCell c 2 k) 0 false ∗ dutyTok ER (xCell (xnbr c) 3 k) 0 false ∗ ∃ f, cPts (xnbr c) (rows (xnbr c) true k) fullShare f)
      ⊢ iprop((iprop(owesE c (owe c ns (k.val + 1)) ∗ cred (tallyAt (xCell c 2 k) () NB)) -∗ Q ⟨⟩) -∗ wpc c (forward c k) Q) := by
  have hr : rows (xnbr c) true k = rows c false k := rows_xnbr c false k
  unfold forward owesE
  iintro ⟨#HR, Hx, ⟨%W, HO⟩, Hd0, Hd1, %g, Hg⟩ Hk
  ihave #HI0 := (records_inv X Kn (c, some (2, k))) $$ HR
  ihave #HI1 := (records_inv X Kn (xnbr c, some (3, k))) $$ HR
  ihave #Hr0 := (records_reached X Kn (c, some (2, k))) $$ HR
  ihave #Hr1 := (records_reached X Kn (xnbr c, some (3, k))) $$ HR
  simp only [Prog.lift]
  iapply (Rounds.wp_send_pointsTo 𝒱₀ ER (linkRd X) (c : Thread nD τ) none (c' := (xnbr c : Thread nD τ)) (κ₁ := Kn (c, some (2, k))) (κ₂ := Kn (xnbr c, some (3, k)))
      (src := cRow c false k) (dst := cRow c false k) (sS := .dma (xsem 2 k)) (sem := .dma (xsem 3 k)) (q := fullShare.left) (fs := recvd X c)
      (r₁ := 0) (r₂ := 0) (d₁ := false) (d₂ := false) (fd := g)
      (by rw [duties_xfer]; exact Finset.mem_singleton_self _) (by rw [duties_xfer]; exact Finset.mem_singleton_self _)
      () () NB (cRow_credit c false k) (amount_xfer X c 2 k false) (amount_xfer X (xnbr c) 3 k false) (owe c ns (k.val + 1)) (owe_pass c ns k)
      (by rw [payload_xfer, cPts_view]; exact BI.Entails.refl _) (by rw [payload_xfer]; exact arrive2 X c k g))
    $$ [Hx Hg HO Hd0 Hd1]
  · isplitr; · iexact HI0
    isplitr; · iexact HI1
    isplitl [Hx]; · iapply (Entails.of_eq (cPts_view c c false k fullShare.left (recvd X c)).symm); iexact Hx
    isplitl [Hg]; · iapply (Entails.of_eq (cPts_view c (xnbr c) false k fullShare g).symm); rw [← hr]; iexact Hg
    isplitl [HO]; · iexact HO
    isplitl [Hd0]; · iexact Hd0
    isplitr; · iexact Hr0
    isplitl [Hd1]; · iexact Hd1
    iexact Hr1
  iintro ⟨Hc, HO⟩
  rw [wp_ret]; imodintro
  iapply Hk
  isplitl [HO]; · iexists _; iexact HO
  iexact Hc

end Cert.KernelIdeal.Work

end
-- ==== Proof.Tasks.lean ====
/-
  The tasks: how many sends, passes and arrivals each task has behind it, what a device holds before each task, and
  that the head and the rest of a task carry that over to the next.
-/
module

public import proofs.«01_k».proof.Proof.Pieces

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal Cert.KernelIdeal.Gen

variable {F : FTy → Type} [FloatOps F]

local notation "𝕄" => MT nD τ sig Unit (Elt F) ℕ UU ℕ

/-! ## Numbers -/

/-- Before task `t`: passes issued, arrivals from the x neighbour awaited, sends issued, departures awaited. -/
def n1 (t : ℕ) : ℕ := if t < 2 then t else min 32 ((t + 3) / 2)
def n2 (t : ℕ) : ℕ := t - n1 t
def ns (t : ℕ) : ℕ := min 32 (n1 t + 4)
def ws (t : ℕ) : ℕ := min 28 (n1 t)

/-- A first-half task handles the next block to pass, the other kind the next block to arrive from the x neighbour, well
    behind the passes. -/
theorem task_mine : ∀ t : Fin 64, taskB t.val = false → (taskK t.val).val = n1 t.val ∧ n1 (t.val + 1) = n1 t.val + 1 ∧ n2 (t.val + 1) = n2 t.val := by
  decide +kernel
/-- A task of the other half works on the next block of that half, at least three blocks behind the passes until these are done. -/
theorem task_other : ∀ t : Fin 64, taskB t.val = true → (taskK t.val).val = n2 t.val ∧ n1 (t.val + 1) = n1 t.val ∧ n2 (t.val + 1) = n2 t.val + 1
    ∧ (n2 t.val + 3 ≤ n1 t.val ∨ n1 t.val = 32) := by
  decide +kernel

/-- The task of a block. -/
def taskIx (p : Bool × Fin 32) : ℕ :=
  match p.1 with
  | false => if p.2.val < 2 then p.2.val else 2 * p.2.val - 2
  | true => if p.2.val < 30 then 2 * p.2.val + 3 else p.2.val + 32

theorem taskIx_task : ∀ t : Fin 64, taskIx (taskB t.val, taskK t.val) = t.val := by decide +kernel
theorem task_taskIx : ∀ p : Bool × Fin 32, (taskB (taskIx p), taskK (taskIx p)) = p := by decide +kernel
theorem taskIx_lt : ∀ p : Bool × Fin 32, taskIx p < 64 := by decide +kernel

theorem taskIx_eq {p : Bool × Fin 32} {t : ℕ} (h : taskIx p = t) : p = (taskB t, taskK t) := by rw [← h]; exact (task_taskIx p).symm

/-! ## Families -/

omit [FloatOps F] in
/-- One element of a family taken out, to be put back changed. -/
theorem bigSep_step {I : Type} [Fintype I] [DecidableEq I] (k : I) {Φ Ψ : I → sProp 𝕄} {A B : sProp 𝕄} (hA : Φ k = A) (hB : Ψ k = B)
    (h : ∀ j, j ≠ k → Φ j = Ψ j) :
    bigSep Finset.univ Φ ⊢ iprop(A ∗ (B -∗ bigSep Finset.univ Ψ)) := by
  rw [bigSep_univ_split k (Φ := Φ), bigSep_univ_split k (Φ := Ψ), bigSep_congr fun j hj => h j (Finset.ne_of_mem_erase hj), hA, hB]
  show iprop(A ∗ bigSep (Finset.univ.erase k) Ψ) ⊢ iprop(A ∗ (B -∗ (B ∗ bigSep (Finset.univ.erase k) Ψ)))
  iintro ⟨H1, H2⟩
  isplitl [H1]; · iexact H1
  iintro H3
  isplitl [H3]; · iexact H3
  iexact H2

variable (X : Inp F)

/-- A loop over steps, from what holds before each of them. -/
theorem wp_steps (c : Dev nD) {α : Type} (I : ℕ → sProp 𝕄) (f : ℕ → Prog (K (F := F)) PUnit) (p : Prog (K (F := F)) α) (Q : α → sProp 𝕄) (n : ℕ) :
    ∀ i, (∀ t, i ≤ t → t < i + n → ∀ Q' : PUnit → sProp 𝕄, I t ⊢ iprop((I (t + 1) -∗ Q' ⟨⟩) -∗ wpc c (f t) Q'))
      → I i ⊢ iprop((I (i + n) -∗ wpc c p Q) -∗ wpc c (steps f p i n) Q) := by
  induction n with
  | zero =>
    intro i _
    iintro H Hk
    iapply Hk; iexact H
  | succ n ih =>
    intro i h
    have h1 := h i le_rfl (by omega) fun _ => wpc c (steps f p (i + 1) n) Q
    have h2 := ih (i + 1) fun t ht ht' => h t (by omega) (by omega)
    rw [show i + 1 + n = i + (n + 1) by omega] at h2
    show _ ⊢ iprop(_ -∗ wpc c (f i >>= fun _ => steps f p (i + 1) n) Q)
    rw [wpc_bind]
    iintro H Hk
    iapply h1 $$ H
    iintro H
    iapply h2 $$ H
    iexact Hk

/-! ## What a device holds before a task -/

/-- The shares of the own input: one for each load slot, one for the staging. -/
def qx (s : Fin 2) : PosShare TreeShare := if s = 0 then fullShare.left else fullShare.right.left
def qs : PosShare TreeShare := fullShare.right.right

def stageS (c : Dev nD) : sProp 𝕄 :=
  iprop(xPts c Finset.univ qs (X c) ∗ semVal ((c : Thread nD τ), .dma sgSem) 0 ∗ ∃ f, ((c : Thread nD τ).loc cc0_scratch10) ↦{fullShare} f)

def xIdle (c : Dev nD) (s : Fin 2) : sProp 𝕄 :=
  iprop(semVal ((c : Thread nD τ), .dma (lxSem s)) 0 ∗ (∃ f, vxPts c s f) ∗ xPts c Finset.univ (qx s) (X c))
def cIdle (c : Dev nD) (s : Fin 2) : sProp 𝕄 := iprop(semVal ((c : Thread nD τ), .dma (lcSem s)) 0 ∗ ∃ f, vcPts c s f)
def oIdle (c : Dev nD) (s : Fin 2) : sProp 𝕄 := iprop(semVal ((c : Thread nD τ), .dma (stSem s)) 0 ∗ ∃ f, voPts c s f)

/-- The load for task `t` in flight, and the rest of the own input, to be joined with the block. -/
def xBusy (c : Dev nD) (t : ℕ) : sProp 𝕄 :=
  iprop(loadingX X c (taskB t) (taskK t) (slotOf t) (qx (slotOf t))
    ∗ (xPts c (rows c (taskB t) (taskK t)) (qx (slotOf t)) (X c) -∗ xPts c Finset.univ (qx (slotOf t)) (X c)))
def xNow (c : Dev nD) (t : ℕ) : sProp 𝕄 := if t < 64 then xBusy X c t else xIdle X c (slotOf t)
theorem xNow_lt (c : Dev nD) {t : ℕ} (h : t < 64) : xNow X c t = iprop(loadingX X c (taskB t) (taskK t) (slotOf t) (qx (slotOf t))
    ∗ (xPts c (rows c (taskB t) (taskK t)) (qx (slotOf t)) (X c) -∗ xPts c Finset.univ (qx (slotOf t)) (X c))) := if_pos h
/-- The output slot task `t` will use: idle at first, later with the store of two tasks ago in flight. -/
def oNow (c : Dev nD) (t : ℕ) : sProp 𝕄 := if t < 2 then oIdle c (slotOf t) else storing X c (taskB (t - 2)) (taskK (t - 2)) (slotOf t)

/-- The blocks of the result, those of the tasks before `u` stored, those from `t` on still to be stored. -/
def outFam (c : Dev nD) (u t : ℕ) (p : Bool × Fin 32) : sProp 𝕄 :=
  if taskIx p < u then oPts c (rows c p.1 p.2) (result X c) else if taskIx p < t then iprop(emp) else iprop(∃ f, oPts c (rows c p.1 p.2) f)

/-- The protocol's part, as numbers of sends, passes and arrivals. -/
def linkS (c : Dev nD) (w s n r : ℕ) : sProp 𝕄 :=
  iprop(owesE c (owe c s n) ∗ bigSep Finset.univ (sendFam c w s) ∗ bigSep Finset.univ (passFam X c n n) ∗ bigSep Finset.univ (recvFam X c r) ∗ stageS X c)

/-- What a device holds before task t. -/
def inv (c : Dev nD) (t : ℕ) : sProp 𝕄 :=
  iprop(linkS X c (ws t) (ns t) (n1 t) (n2 t)
    ∗ (xNow X c t ∗ xIdle X c (slotOf (t + 1))) ∗ (cIdle c (slotOf t) ∗ cIdle c (slotOf (t + 1)))
    ∗ (oNow X c t ∗ oNow X c (t + 1)) ∗ bigSep Finset.univ (outFam X c (t - 2) t))

omit [FloatOps F] in
/-- A block's rows taken out of the whole argument, to be given back. -/
theorem xPts_rows (c : Dev nD) (b : Bool) (k : Fin 32) (q : PosShare TreeShare) (f : S16384x1024.Idx → F .f32) :
    (xPts c Finset.univ q f : sProp 𝕄) ⊢ iprop(xPts c (rows c b k) q f ∗ (xPts c (rows c b k) q f -∗ xPts c Finset.univ q f)) := by
  unfold xPts
  iintro H
  ihave H := (pointsTo_split_subset (Finset.subset_univ (rows c b k))).1 $$ H
  icases H with ⟨H1, H2⟩
  isplitl [H1]; · iexact H1
  iintro H1
  iapply (pointsTo_split_subset (Finset.subset_univ (rows c b k))).2
  isplitl [H1]; · iexact H1
  iexact H2

/-! ## Sends, from a family -/

theorem sendFam_at {c : Dev nD} {w s : ℕ} {k : Fin 32} (hw : w ≤ k.val) (hs : s ≤ k.val) :
    (sendFam c w s k : sProp 𝕄) = iprop(atPos ER (xCell c 0 k) 0 ∅ 0 ∗ dutyTok ER (xCell c 0 k) 0 false ∗ dutyTok ER (xCell (ynbr c) 1 k) 0 false
      ∗ ∃ f, cPts (ynbr c) (rows (ynbr c) false k) fullShare f) := by
  unfold sendFam; rw [if_neg (by omega), if_neg (by omega)]
theorem sendFam_sent {c : Dev nD} {w s : ℕ} {k : Fin 32} (hw : w ≤ k.val) (hs : k.val < s) :
    (sendFam c w s k : sProp 𝕄) = iprop(atPos ER (xCell c 0 k) 0 ∅ 0 ∗ cred (tallyAt (xCell c 0 k) () NB)) := by
  unfold sendFam; rw [if_neg (by omega), if_pos hs]
theorem sendFam_left {c : Dev nD} {w s : ℕ} {k : Fin 32} (hw : k.val < w) : (sendFam c w s k : sProp 𝕄) = semVal (xCell c 0 k) 0 := by
  unfold sendFam; rw [if_pos hw]

/-- Send `k` with the sends as a family. -/
theorem wp_send_fam (Kn : Cells → ℕ) (c : Dev nD) (k : Fin 32) (w n : ℕ) (hw : w ≤ k.val) (Q : PUnit → sProp 𝕄) :
    iprop(records X Kn ∗ (∃ f, vsPts c (sendSlot k.val) f) ∗ owesE c (owe c k.val n) ∗ bigSep Finset.univ (sendFam c w k.val) ∗ stageS X c)
      ⊢ iprop((iprop(owesE c (owe c (k.val + 1) n) ∗ bigSep Finset.univ (sendFam c w (k.val + 1)) ∗ stageS X c) -∗ Q ⟨⟩)
          -∗ wpc c (send c k (sendSlot k.val)) Q) := by
  unfold stageS
  iintro ⟨#HR, Hv, HO, HS, Hx, Hst⟩ Hk
  ihave Hx := (xPts_rows c false k qs (X c)) $$ Hx
  icases Hx with ⟨Hx, Hxb⟩
  ihave HS := (bigSep_step k (Φ := sendFam c w k.val) (Ψ := sendFam c w (k.val + 1)) (sendFam_at hw le_rfl) (sendFam_sent hw (Nat.lt_succ_self _)) (fun j hj => by
    have : j.val ≠ k.val := fun h => hj (Fin.ext h)
    unfold sendFam
    by_cases h : j.val < w
    · rw [if_pos h, if_pos h]
    by_cases h' : j.val < k.val
    · rw [if_neg h, if_pos h', if_neg h, if_pos (by omega)]
    · rw [if_neg h, if_neg h', if_neg h, if_neg (by omega)])) $$ HS
  icases HS with ⟨⟨Hat, Hd0, Hd1, Hg⟩, HSb⟩
  iapply (wp_send X Kn c k qs n Q) $$ [Hx Hst Hv HO Hd0 Hd1 Hg]
  · isplitr; · iexact HR
    isplitl [Hx Hst]
    · isplitl [Hx]; · iexact Hx
      iexact Hst
    isplitl [Hv]; · iexact Hv
    isplitl [HO]; · iexact HO
    isplitl [Hd0]; · iexact Hd0
    isplitl [Hd1]; · iexact Hd1
    iexact Hg
  iintro ⟨⟨Hx, Hst⟩, HO, Hc⟩
  iapply Hk
  isplitl [HO]; · iexact HO
  isplitl [HSb Hat Hc]
  · iapply HSb
    isplitl [Hat]; · iexact Hat
    iexact Hc
  isplitl [Hxb Hx]
  · iapply Hxb; iexact Hx
  iexact Hst

/-- The departure of send `k` awaited. -/
theorem wp_waitSent_fam (Kn : Cells → ℕ) (c : Dev nD) (k : Fin 32) (s n : ℕ) (hs : k.val < s) (sl : Fin 4) (Q : PUnit → sProp 𝕄) :
    iprop(records X Kn ∗ owesE c (owe c s n) ∗ bigSep Finset.univ (sendFam c k.val s))
      ⊢ iprop((iprop((∃ f, vsPts c (sendSlot k.val) f) ∗ owesE c (owe c s n) ∗ bigSep Finset.univ (sendFam c (k.val + 1) s)) -∗ Q ⟨⟩)
          -∗ wpc c (waitSent c k sl) Q) := by
  iintro ⟨#HR, HO, HS⟩ Hk
  ihave HS := (bigSep_step k (Φ := sendFam c k.val s) (Ψ := sendFam c (k.val + 1) s) (sendFam_sent le_rfl hs) (sendFam_left (Nat.lt_succ_self _)) (fun j hj => by
    have : j.val ≠ k.val := fun h => hj (Fin.ext h)
    unfold sendFam
    by_cases h : j.val < k.val
    · rw [if_pos h, if_pos (by omega)]
    · rw [if_neg h, if_neg (by omega : ¬ j.val < k.val + 1)])) $$ HS
  icases HS with ⟨⟨Hat, Hc⟩, HSb⟩
  iapply (wp_waitSent X Kn c k sl s n Q) $$ [Hat Hc HO]
  · isplitr; · iexact HR
    isplitl [Hat]; · iexact Hat
    isplitl [Hc]; · iexact Hc
    iexact HO
  iintro ⟨Hv, Hz, HO⟩
  iapply Hk
  isplitl [Hv]; · iexact Hv
  isplitl [HO]; · iexact HO
  iapply HSb; iexact Hz

omit [FloatOps F] in
theorem cPts_def (c : Dev nD) (I : Finset S16384x1024.Idx) (q : PosShare TreeShare) (f : S16384x1024.Idx → F .bf16) :
    (cPts c I q f : sProp 𝕄) = (((c : Thread nD τ).loc main_v1_1) ↦[I]{q} f) := rfl

theorem passFam_at {c : Dev nD} {n : ℕ} {k : Fin 32} (h : n ≤ k.val) :
    passFam X c n n k = iprop((atPos ER (xCell c 1 k) 0 ∅ 0 ∗ cred (tallyAt (xCell c 1 k) () NB))
      ∗ (atPos ER (xCell c 2 k) 0 ∅ 0 ∗ dutyTok ER (xCell c 2 k) 0 false ∗ dutyTok ER (xCell (xnbr c) 3 k) 0 false
        ∗ ∃ f, cPts (xnbr c) (rows (xnbr c) true k) fullShare f)) := by
  unfold passFam; rw [if_neg (by omega), if_neg (by omega)]
theorem passFam_done {c : Dev nD} {n : ℕ} {k : Fin 32} (h : k.val < n) :
    passFam X c n n k = iprop(semVal (xCell c 1 k) 0
      ∗ (cPts c (rows c false k) fullShare.right (recvd X c) ∗ atPos ER (xCell c 2 k) 0 ∅ 0 ∗ cred (tallyAt (xCell c 2 k) () NB))) := by
  unfold passFam; rw [if_pos h, if_pos h]
theorem recvFam_at {c : Dev nD} {n : ℕ} {k : Fin 32} (h : n ≤ k.val) :
    recvFam X c n k = iprop(atPos ER (xCell c 3 k) 0 ∅ 0 ∗ cred (tallyAt (xCell c 3 k) () NB)) := by
  unfold recvFam; rw [if_neg (by omega)]
theorem recvFam_done {c : Dev nD} {n : ℕ} {k : Fin 32} (h : k.val < n) :
    recvFam X c n k = iprop(semVal (xCell c 3 k) 0 ∗ cPts c (rows c true k) fullShare (recvd X c)) := by
  unfold recvFam; rw [if_pos h]

/-- Block `k` arrives from the y neighbour and is passed on. -/
theorem wp_pass_fam (Kn : Cells → ℕ) (c : Dev nD) (k : Fin 32) (s : ℕ) (hs : k.val < s ∨ 32 ≤ s) (sl : Fin 4) (Q : PUnit → sProp 𝕄) :
    iprop(records X Kn ∗ owesE c (owe c s k.val) ∗ bigSep Finset.univ (passFam X c k.val k.val))
      ⊢ iprop((iprop(owesE c (owe c s (k.val + 1)) ∗ bigSep Finset.univ (passFam X c (k.val + 1) (k.val + 1))) -∗ Q ⟨⟩)
          -∗ wpc c (do waitRecv1 c k sl; forward c k) Q) := by
  iintro ⟨#HR, HO, HS⟩ Hk
  ihave HS := (bigSep_step k (Φ := passFam X c k.val k.val) (Ψ := passFam X c (k.val + 1) (k.val + 1)) (passFam_at X le_rfl) (passFam_done X (Nat.lt_succ_self _)) (fun j hj => by
    have : j.val ≠ k.val := fun h => hj (Fin.ext h)
    unfold passFam
    by_cases h : j.val < k.val
    · rw [if_pos h, if_pos h, if_pos (by omega), if_pos (by omega)]
    · rw [if_neg h, if_neg h, if_neg (by omega), if_neg (by omega)])) $$ HS
  icases HS with ⟨⟨⟨Hat, Hc⟩, Hat2, Hd0, Hd1, Hg⟩, HSb⟩
  rw [wpc_bind]
  iapply (wp_waitRecv1 X Kn c k sl s k.val hs le_rfl _) $$ [Hat Hc HO]
  · isplitr; · iexact HR
    isplitl [Hat]; · iexact Hat
    isplitl [Hc]; · iexact Hc
    iexact HO
  iintro ⟨Hx, Hz, HO⟩
  ihave Hx := (Entails.of_eq (cPts_def c (rows c false k) fullShare (recvd X c))) $$ Hx
  ihave Hx := (pointsTo_share (PosShare.mem_left_op_right fullShare)).1 $$ Hx
  icases Hx with ⟨Hl, Hr⟩
  iapply (wp_forward X Kn c k s Q) $$ [Hl HO Hd0 Hd1 Hg]
  · isplitr; · iexact HR
    isplitl [Hl]; · iapply (Entails.of_eq (cPts_def c (rows c false k) fullShare.left (recvd X c)).symm); iexact Hl
    isplitl [HO]; · iexact HO
    isplitl [Hd0]; · iexact Hd0
    isplitl [Hd1]; · iexact Hd1
    iexact Hg
  iintro ⟨HO, Hc⟩
  iapply Hk
  isplitl [HO]; · iexact HO
  iapply HSb
  isplitl [Hz]; · iexact Hz
  isplitl [Hr]; · iapply (Entails.of_eq (cPts_def c (rows c false k) fullShare.right (recvd X c)).symm); iexact Hr
  isplitl [Hat2]; · iexact Hat2
  iexact Hc

/-- Block `k` arrives from the x neighbour. -/
theorem wp_recv_fam (Kn : Cells → ℕ) (c : Dev nD) (k : Fin 32) (s n : ℕ) (hs : k.val + 1 < s ∨ 32 ≤ s) (hn : k.val < n ∨ 32 ≤ n) (Q : PUnit → sProp 𝕄) :
    iprop(records X Kn ∗ owesE c (owe c s n) ∗ bigSep Finset.univ (recvFam X c k.val))
      ⊢ iprop((iprop(owesE c (owe c s n) ∗ bigSep Finset.univ (recvFam X c (k.val + 1))) -∗ Q ⟨⟩) -∗ wpc c (waitRecv2 c k) Q) := by
  iintro ⟨#HR, HO, HS⟩ Hk
  ihave HS := (bigSep_step k (Φ := recvFam X c k.val) (Ψ := recvFam X c (k.val + 1)) (recvFam_at X le_rfl) (recvFam_done X (Nat.lt_succ_self _)) (fun j hj => by
    have : j.val ≠ k.val := fun h => hj (Fin.ext h)
    unfold recvFam
    by_cases h : j.val < k.val
    · rw [if_pos h, if_pos (by omega)]
    · rw [if_neg h, if_neg (by omega)])) $$ HS
  icases HS with ⟨⟨Hat, Hc⟩, HSb⟩
  iapply (wp_waitRecv2 X Kn c k s n hs hn Q) $$ [Hat Hc HO]
  · isplitr; · iexact HR
    isplitl [Hat]; · iexact Hat
    isplitl [Hc]; · iexact Hc
    iexact HO
  iintro ⟨Hx, Hz, HO⟩
  iapply Hk
  isplitl [HO]; · iexact HO
  iapply HSb
  isplitl [Hz]; · iexact Hz
  iexact Hx

/-! ## A task's head -/

/-- The communication of a task: the next send, the wait for its block and the pass. -/
theorem wp_head (Kn : Cells → ℕ) (c : Dev nD) (t : ℕ) (ht : t < 64) (Q : PUnit → sProp 𝕄) :
    iprop(records X Kn ∗ linkS X c (ws t) (ns t) (n1 t) (n2 t))
      ⊢ iprop((linkS X c (ws (t + 1)) (ns (t + 1)) (n1 (t + 1)) (n2 (t + 1)) -∗ Q ⟨⟩) -∗ wpc c (head c t) Q) := by
  unfold head linkS
  cases hb : taskB t with
  | true =>
    obtain ⟨hk, h1, h2, hl⟩ := task_other ⟨t, ht⟩ hb
    dsimp only at hk h1 h2 hl ⊢
    unfold ws ns
    rw [h1, h2, ← hk]
    have := (taskK t).isLt
    iintro ⟨#HR, HO, HS, HP, HV, Hst⟩ Hk
    iapply (wp_recv_fam X Kn c (taskK t) (min 32 (n1 t + 4)) (n1 t) (by omega) (by omega) Q) $$ [HO HV]
    · isplitr; · iexact HR
      isplitl [HO]; · iexact HO
      iexact HV
    iintro ⟨HO, HV⟩
    iapply Hk
    isplitl [HO]; · iexact HO
    isplitl [HS]; · iexact HS
    isplitl [HP]; · iexact HP
    isplitl [HV]; · iexact HV
    iexact Hst
  | false =>
    obtain ⟨hk, h1, h2⟩ := task_mine ⟨t, ht⟩ hb
    dsimp only at hk h1 h2 ⊢
    have hlt := (taskK t).isLt
    unfold ws ns
    rw [h1, h2, ← hk]
    generalize taskK t = k at hlt ⊢
    by_cases h4 : k.val + 4 < 32
    · have hv : (blk (k.val + 4)).val = k.val + 4 := Nat.mod_eq_of_lt h4
      have hsl : sendSlot (blk (k.val + 4)).val = sendSlot k.val := by
        rw [hv]; exact Fin.ext (by show (k.val + 4) % 4 = k.val % 4; omega)
      rw [if_pos h4, show min 28 k.val = k.val by omega, show min 28 (k.val + 1) = k.val + 1 by omega,
        show min 32 (k.val + 4) = (blk (k.val + 4)).val by rw [hv]; omega, show min 32 (k.val + 1 + 4) = (blk (k.val + 4)).val + 1 by rw [hv]; omega]
      iintro ⟨#HR, HO, HS, HP, HV, Hst⟩ Hk
      rw [wpc_bind]
      iapply (wp_waitSent_fam X Kn c k (blk (k.val + 4)).val k.val (by rw [hv]; omega) (sendSlot k.val) _) $$ [HO HS]
      · isplitr; · iexact HR
        isplitl [HO]; · iexact HO
        iexact HS
      iintro ⟨Hv, HO, HS⟩
      rw [wpc_bind, ← hsl]
      iapply (wp_send_fam X Kn c (blk (k.val + 4)) (k.val + 1) k.val (by rw [hv]; omega) _) $$ [Hv HO HS Hst]
      · isplitr; · iexact HR
        isplitl [Hv]; · iexact Hv
        isplitl [HO]; · iexact HO
        isplitl [HS]; · iexact HS
        iexact Hst
      iintro ⟨HO, HS, Hst⟩
      iapply (wp_pass_fam X Kn c k ((blk (k.val + 4)).val + 1) (by rw [hv]; omega) _ Q) $$ [HO HP]
      · isplitr; · iexact HR
        isplitl [HO]; · iexact HO
        iexact HP
      iintro ⟨HO, HP⟩
      iapply Hk
      isplitl [HO]; · iexact HO
      isplitl [HS]; · iexact HS
      isplitl [HP]; · iexact HP
      isplitl [HV]; · iexact HV
      iexact Hst
    · rw [if_neg h4, show min 28 k.val = 28 by omega, show min 28 (k.val + 1) = 28 by omega,
        show min 32 (k.val + 4) = 32 by omega, show min 32 (k.val + 1 + 4) = 32 by omega]
      iintro ⟨#HR, HO, HS, HP, HV, Hst⟩ Hk
      iapply (wp_pass_fam X Kn c k 32 (by omega) _ Q) $$ [HO HP]
      · isplitr; · iexact HR
        isplitl [HO]; · iexact HO
        iexact HP
      iintro ⟨HO, HP⟩
      iapply Hk
      isplitl [HO]; · iexact HO
      isplitl [HS]; · iexact HS
      isplitl [HP]; · iexact HP
      isplitl [HV]; · iexact HV
      iexact Hst

/-! ## The rest of a task -/

/-- The received block of task `t`, borrowed from the arrivals. -/
theorem borrow (c : Dev nD) (t : ℕ) (ht : t < 64) :
    iprop(bigSep Finset.univ (passFam X c (n1 (t + 1)) (n1 (t + 1))) ∗ bigSep Finset.univ (recvFam X c (n2 (t + 1))))
      ⊢ (iprop(∃ q, cPts c (rows c (taskB t) (taskK t)) q (recvd X c) ∗ (cPts c (rows c (taskB t) (taskK t)) q (recvd X c)
          -∗ (bigSep Finset.univ (passFam X c (n1 (t + 1)) (n1 (t + 1))) ∗ bigSep Finset.univ (recvFam X c (n2 (t + 1)))))) : sProp 𝕄) := by
  cases hb : taskB t with
  | true =>
    obtain ⟨hk, h1, h2, -⟩ := task_other ⟨t, ht⟩ hb
    dsimp only at hk h1 h2
    have e := recvFam_done X (c := c) (n := n2 (t + 1)) (k := taskK t) (by omega)
    iintro ⟨HP, HV⟩
    ihave HV := (bigSep_step (taskK t) (Φ := recvFam X c (n2 (t + 1))) e e (fun j _ => rfl)) $$ HV
    icases HV with ⟨⟨Hz, Hc⟩, HVb⟩
    iexists fullShare
    isplitl [Hc]; · iexact Hc
    iintro Hc
    isplitl [HP]; · iexact HP
    iapply HVb
    isplitl [Hz]; · iexact Hz
    iexact Hc
  | false =>
    obtain ⟨hk, h1, h2⟩ := task_mine ⟨t, ht⟩ hb
    dsimp only at hk h1 h2
    have e := passFam_done X (c := c) (n := n1 (t + 1)) (k := taskK t) (by omega)
    iintro ⟨HP, HV⟩
    ihave HP := (bigSep_step (taskK t) (Φ := passFam X c (n1 (t + 1)) (n1 (t + 1))) e e (fun j _ => rfl)) $$ HP
    icases HP with ⟨⟨Hz, Hc, Hrest⟩, HPb⟩
    iexists fullShare.right
    isplitl [Hc]; · iexact Hc
    iintro Hc
    isplitl [HPb Hz Hc Hrest]
    · iapply HPb
      isplitl [Hz]; · iexact Hz
      isplitl [Hc]; · iexact Hc
      iexact Hrest
    iexact HV

/-- A block of the result is done. -/
theorem outFam_done (c : Dev nD) (u t : ℕ) (hu : u < 64) (hut : u < t) :
    iprop(bigSep Finset.univ (outFam X c u t) ∗ oPts c (rows c (taskB u) (taskK u)) (result X c))
      ⊢ (bigSep Finset.univ (outFam X c (u + 1) t) : sProp 𝕄) := by
  have h : taskIx (taskB u, taskK u) = u := taskIx_task ⟨u, hu⟩
  have e : (outFam X c (u + 1) t (taskB u, taskK u) : sProp 𝕄) = oPts c (rows c (taskB u) (taskK u)) (result X c) := by
    unfold outFam; rw [h, if_pos (by omega)]
  iintro ⟨H, Ho⟩
  ihave H := (bigSep_step (taskB u, taskK u) (Φ := outFam X c u t) (Ψ := outFam X c (u + 1) t) rfl e (fun p hp => by
    have : taskIx p ≠ u := fun h => hp (taskIx_eq h)
    unfold outFam
    by_cases h : taskIx p < u
    · rw [if_pos h, if_pos (by omega)]
    · rw [if_neg h, if_neg (by omega : ¬ taskIx p < u + 1)])) $$ H
  icases H with ⟨-, Hb⟩
  iapply Hb
  iexact Ho

/-- A block of the result is taken to be written. -/
theorem outFam_take (c : Dev nD) (t : ℕ) (ht : t < 64) :
    (bigSep Finset.univ (outFam X c (t + 1 - 2) t) : sProp 𝕄)
      ⊢ iprop((∃ f, oPts c (rows c (taskB t) (taskK t)) f) ∗ bigSep Finset.univ (outFam X c (t + 1 - 2) (t + 1))) := by
  have hu : taskIx (taskB t, taskK t) = t := taskIx_task ⟨t, ht⟩
  have e : (outFam X c (t + 1 - 2) t (taskB t, taskK t) : sProp 𝕄) = iprop(∃ f, oPts c (rows c (taskB t) (taskK t)) f) := by
    unfold outFam; rw [hu, if_neg (by omega), if_neg (by omega)]
  have e' : (outFam X c (t + 1 - 2) (t + 1) (taskB t, taskK t) : sProp 𝕄) = iprop(emp) := by
    unfold outFam; rw [hu, if_neg (by omega), if_pos (by omega)]
  iintro H
  ihave H := (bigSep_step (taskB t, taskK t) (Φ := outFam X c (t + 1 - 2) t) (Ψ := outFam X c (t + 1 - 2) (t + 1)) e e' (fun p hp => by
    have : taskIx p ≠ t := fun h => hp (taskIx_eq h)
    unfold outFam
    by_cases h : taskIx p < t + 1 - 2
    · rw [if_pos h, if_pos h]
    by_cases h' : taskIx p < t
    · rw [if_neg h, if_pos h', if_neg h, if_pos (by omega)]
    · rw [if_neg h, if_neg h', if_neg h, if_neg (by omega)])) $$ H
  icases H with ⟨H, Hb⟩
  isplitl [H]; · iexact H
  iapply Hb
  iempintro

/-- The next load started, if there is one. -/
theorem wp_loadNext (c : Dev nD) (t : ℕ) (p : PUnit → Prog (K (F := F)) PUnit) (Q : PUnit → sProp 𝕄) :
    (xIdle X c (slotOf t) : sProp 𝕄) ⊢ iprop((xNow X c t -∗ wpc c (p ⟨⟩) Q)
      -∗ wpc c (if t < 64 then (loadX c (taskB t) (taskK t) (slotOf t) >>= p) else p ⟨⟩) Q) := by
  unfold xNow
  by_cases h : t < 64
  · rw [if_pos h, if_pos h, wpc_bind]
    unfold xIdle xBusy
    iintro ⟨Hz, Hv, Hx⟩ Hk
    ihave Hx := (xPts_rows c (taskB t) (taskK t) (qx (slotOf t)) (X c)) $$ Hx
    icases Hx with ⟨Hx, Hxb⟩
    iapply (wp_loadX X c (taskB t) (taskK t) (slotOf t) (qx (slotOf t)) _) $$ [Hz Hv Hx]
    · isplitl [Hx]; · iexact Hx
      isplitl [Hv]; · iexact Hv
      iexact Hz
    iintro Hf
    iapply Hk
    isplitl [Hf]; · iexact Hf
    iexact Hxb
  · rw [if_neg h, if_neg h]
    iintro H Hk
    iapply Hk; iexact H

theorem slotOf_add (t : ℕ) : slotOf (t + 2) = slotOf t := Fin.ext (by show (t + 2) % 2 = t % 2; omega)

/-- The output slot emptied, if it was in use. -/
theorem wp_freeOut (Kn : Cells → ℕ) (c : Dev nD) (t : ℕ) (ht : t < 64) (s n : ℕ) (p : PUnit → Prog (K (F := F)) PUnit) (Q : PUnit → sProp 𝕄) :
    iprop(records X Kn ∗ oNow X c t ∗ bigSep Finset.univ (outFam X c (t - 2) t) ∗ owesE c (owe c s n))
      ⊢ iprop((iprop(oIdle c (slotOf t) ∗ bigSep Finset.univ (outFam X c (t + 1 - 2) t) ∗ owesE c (owe c s n)) -∗ wpc c (p ⟨⟩) Q)
          -∗ wpc c (if 2 ≤ t then (waitOut c (taskB (t - 2)) (taskK (t - 2)) (slotOf t) >>= p) else p ⟨⟩) Q) := by
  unfold oNow
  by_cases h : 2 ≤ t
  · rw [if_neg (by omega), if_pos h, wpc_bind]
    iintro ⟨#HR, Hf, Hfam, HO⟩ Hk
    iapply (wp_waitOut X Kn c (taskB (t - 2)) (taskK (t - 2)) (slotOf t) s n _) $$ [Hf HO]
    · isplitr; · iexact HR
      isplitl [Hf]; · iexact Hf
      iexact HO
    iintro ⟨⟨Ho, Hv⟩, Hz, HO⟩
    iapply Hk
    isplitl [Hv Hz]
    · unfold oIdle
      isplitl [Hz]; · iexact Hz
      iexact Hv
    isplitl [Hfam Ho]
    · rw [show t + 1 - 2 = t - 2 + 1 by omega]
      iapply (outFam_done X c (t - 2) t (by omega) (by omega))
      isplitl [Hfam]; · iexact Hfam
      iexact Ho
    iexact HO
  · rw [if_pos (by omega), if_neg h, show t - 2 = t + 1 - 2 by omega]
    iintro ⟨#HR, Hf, Hfam, HO⟩ Hk
    iapply Hk
    isplitl [Hf]; · iexact Hf
    isplitl [Hfam]; · iexact Hfam
    iexact HO

/-- The local part of a task: the next load, the sum and the write of the result. -/
theorem wp_tail (Kn : Cells → ℕ) (c : Dev nD) (t : ℕ) (ht : t < 64) (Q : PUnit → sProp 𝕄) :
    iprop(records X Kn ∗ linkS X c (ws (t + 1)) (ns (t + 1)) (n1 (t + 1)) (n2 (t + 1))
        ∗ (xNow X c t ∗ xIdle X c (slotOf (t + 1))) ∗ (cIdle c (slotOf t) ∗ cIdle c (slotOf (t + 1)))
        ∗ (oNow X c t ∗ oNow X c (t + 1)) ∗ bigSep Finset.univ (outFam X c (t - 2) t))
      ⊢ iprop((inv X c (t + 1) -∗ Q ⟨⟩) -∗ wpc c (tail c t) Q) := by
  unfold tail linkS
  iintro ⟨#HR, ⟨HO, HS, HP, HV, Hst⟩, ⟨Hx, Hx'⟩, ⟨Hc, Hc'⟩, ⟨Ho, Ho'⟩, Hfam⟩ Hk
  -- the received block
  ihave HB := (borrow X c t ht) $$ [HP HV]
  · isplitl [HP]; · iexact HP
    iexact HV
  icases HB with ⟨%q, Hr, Hrb⟩
  unfold cIdle
  icases Hc with ⟨Hcz, Hcv⟩
  rw [wpc_bind]
  iapply (wp_loadC X c (taskB t) (taskK t) (slotOf t) q _) $$ [Hr Hcv Hcz]
  · isplitl [Hr]; · iexact Hr
    isplitl [Hcv]; · iexact Hcv
    iexact Hcz
  iintro Hcf
  iapply (wp_loadNext X c (t + 1) _ Q) $$ Hx'
  iintro Hx'
  ihave Hx := (Entails.of_eq (xNow_lt X c ht)) $$ Hx
  icases Hx with ⟨Hxf, Hxb⟩
  rw [wpc_bind]
  iapply (wp_waitX X Kn c (taskB t) (taskK t) (slotOf t) _ (ns (t + 1)) (n1 (t + 1)) _) $$ [Hxf HO]
  · isplitr; · iexact HR
    isplitl [Hxf]; · iexact Hxf
    iexact HO
  iintro ⟨⟨Hxv, Hx⟩, Hxz, HO⟩
  rw [wpc_bind]
  iapply (wp_waitC X Kn c (taskB t) (taskK t) (slotOf t) q (ns (t + 1)) (n1 (t + 1)) _) $$ [Hcf HO]
  · isplitr; · iexact HR
    isplitl [Hcf]; · iexact Hcf
    iexact HO
  iintro ⟨⟨Hcv, Hr⟩, Hcz, HO⟩
  ihave HPV := Hrb $$ Hr
  icases HPV with ⟨HP, HV⟩
  iapply (wp_freeOut X Kn c t ht (ns (t + 1)) (n1 (t + 1)) _ Q) $$ [Ho Hfam HO]
  · isplitr; · iexact HR
    isplitl [Ho]; · iexact Ho
    isplitl [Hfam]; · iexact Hfam
    iexact HO
  iintro ⟨Ho, Hfam, HO⟩
  unfold oIdle
  icases Ho with ⟨Hoz, Hov⟩
  ihave Hfam := (outFam_take X c t ht) $$ Hfam
  icases Hfam with ⟨Hor, Hfam⟩
  iapply (wp_combine X c (taskB t) (taskK t) (slotOf t) Q) $$ [Hxv Hcv Hov Hor Hoz]
  · isplitl [Hxv]; · iexact Hxv
    isplitl [Hcv]; · iexact Hcv
    isplitl [Hov]; · iexact Hov
    isplitl [Hor]; · iexact Hor
    iexact Hoz
  iintro ⟨Hsf, Hxv, Hcv⟩
  iapply Hk
  unfold inv linkS xIdle cIdle
  rw [show slotOf (t + 1 + 1) = slotOf t from slotOf_add t]
  isplitl [HO HS HP HV Hst]
  · isplitl [HO]; · iexact HO
    isplitl [HS]; · iexact HS
    isplitl [HP]; · iexact HP
    isplitl [HV]; · iexact HV
    iexact Hst
  isplitl [Hx' Hxz Hxv Hx Hxb]
  · isplitl [Hx']; · iexact Hx'
    isplitl [Hxz]; · iexact Hxz
    isplitl [Hxv]; · iexact Hxv
    iapply Hxb; iexact Hx
  isplitl [Hc' Hcz Hcv]
  · isplitl [Hc']; · iexact Hc'
    isplitl [Hcz]; · iexact Hcz
    iexact Hcv
  isplitl [Ho' Hsf]
  · isplitl [Ho']; · iexact Ho'
    unfold oNow
    rw [if_neg (by omega), show t + 1 + 1 - 2 = t by omega, show slotOf (t + 1 + 1) = slotOf t from slotOf_add t]
    iexact Hsf
  iexact Hfam

/-- One task. -/
theorem wp_task (Kn : Cells → ℕ) (c : Dev nD) (t : ℕ) (ht : t < 64) (Q : PUnit → sProp 𝕄) :
    iprop(records X Kn ∗ inv X c t) ⊢ iprop((iprop(records X Kn ∗ inv X c (t + 1)) -∗ Q ⟨⟩) -∗ wpc c (do head c t; tail c t) Q) := by
  unfold inv
  iintro ⟨#HR, Hl, Hrest⟩ Hk
  rw [wpc_bind]
  iapply (wp_head X Kn c t ht _) $$ [Hl]
  · isplitr; · iexact HR
    iexact Hl
  iintro Hl
  iapply (wp_tail X Kn c t ht Q) $$ [Hl Hrest]
  · isplitr; · iexact HR
    isplitl [Hl]; · iexact Hl
    iexact Hrest
  iintro H
  iapply Hk
  isplitr; · iexact HR
  unfold inv
  iexact H

end Cert.KernelIdeal.Work

end
-- ==== Proof.Body.lean ====
/-
  The two ends of the body on one device: what it starts from and what it ends with, the arrays cut into blocks and
  slots, the barrier, the first sends, and the last waits, one at a time.
-/
module

public import proofs.«01_k».proof.Proof.Tasks

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal Cert.KernelIdeal.Gen

variable {F : FTy → Type} [FloatOps F]

local notation "𝕄" => MT nD τ sig Unit (Elt F) ℕ UU ℕ

/-! ## Buffers in parts -/

omit [FloatOps F] in
/-- An array of unknown contents, cut into parts. -/
theorem parts_split {ℓ : Loc nD τ sig} {T : Type} [Fintype T] (Kt : T → Finset (Idx ℓ)) (hd : ∀ t t', t ≠ t' → Disjoint (Kt t) (Kt t'))
    (hc : Finset.univ.biUnion Kt = Finset.univ) :
    (iprop(∃ f, ℓ ↦{fullShare} f) : sProp 𝕄) ⊢ bigSep Finset.univ fun t => iprop(∃ f, ℓ ↦[Kt t]{fullShare} f) := by
  iintro ⟨%f, H⟩
  have e : (ℓ ↦{fullShare} f : sProp 𝕄) = bigSep Finset.univ fun t => ℓ ↦[Kt t]{fullShare} f := by
    rw [← pointsTo_biUnion Finset.univ Kt fun t _ t' _ h => hd t t' h, hc]
  ihave H := (Entails.of_eq e) $$ H
  iapply (show (bigSep Finset.univ fun t => ℓ ↦[Kt t]{fullShare} f : sProp 𝕄) ⊢ bigSep Finset.univ fun t => iprop(∃ f, ℓ ↦[Kt t]{fullShare} f) from
    bigSep_mono fun t _ => sProp.exists_intro f) $$ H

omit [FloatOps F] in
/-- Parts of unknown contents, put together. -/
theorem parts_join {ℓ : Loc nD τ sig} {T : Type} [Fintype T] [DecidableEq T] (Kt : T → Finset (Idx ℓ)) (t₀ : T)
    (hd : ∀ t t', t ≠ t' → Disjoint (Kt t) (Kt t')) (hc : Finset.univ.biUnion Kt = Finset.univ) :
    (bigSep Finset.univ fun t => iprop(∃ f, ℓ ↦[Kt t]{fullShare} f)) ⊢ (iprop(∃ f, ℓ ↦{fullShare} f) : sProp 𝕄) := by
  have h₀ : (bigSep Finset.univ fun t => iprop(∃ f, ℓ ↦[Kt t]{fullShare} f))
      ⊢ (iprop(∃ f₀ : Buf (Elt F) ℓ, bigSep Finset.univ fun t => iprop(∃ f, ℓ ↦[Kt t]{fullShare} f)) : sProp 𝕄) := by
    iintro H
    ihave H := (bigSep_step t₀ (Φ := fun t => iprop(∃ f, ℓ ↦[Kt t]{fullShare} f)) rfl rfl fun _ _ => rfl) $$ H
    icases H with ⟨⟨%f, H⟩, Hb⟩
    iexists f
    iapply Hb
    iexists f; iexact H
  iintro H
  ihave H := h₀ $$ H
  icases H with ⟨%f₀, H⟩
  haveI : Nonempty (Buf (Elt F) ℓ) := ⟨f₀⟩
  ihave H := (bigSep_exists_pi (Y := fun _ : T => Buf (Elt F) ℓ) Finset.univ fun t (f : Buf (Elt F) ℓ) => (ℓ ↦[Kt t]{fullShare} f : sProp 𝕄)) $$ H
  icases H with ⟨%fs, H⟩
  ihave H := (pointsTo_biUnion_join Finset.univ Kt fs f₀ fun t _ t' _ h => hd t t' h) $$ H
  icases H with ⟨%g, -, H⟩
  rw [hc]
  iexists g; iexact H

omit [FloatOps F] in
theorem fin2 (Φ : Fin 2 → sProp 𝕄) : bigSep Finset.univ Φ = iprop(Φ 0 ∗ Φ 1) := by
  rw [bigSep_univ_eq_bigSepL [0, 1] (by decide) (by decide), bigSepL_cons_cons, bigSepL_singleton]
  rfl
omit [FloatOps F] in
theorem fin4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl
omit [FloatOps F] in
theorem bool2 (Φ : Bool → sProp 𝕄) : bigSep Finset.univ Φ = iprop(Φ false ∗ Φ true) := by
  rw [bigSep_univ_eq_bigSepL [false, true] (by decide) (by decide), bigSepL_cons_cons, bigSepL_singleton]
  rfl

variable (X : Inp F)

/-! ## Start and end -/

/-- A device's part in the transfers number `k`. -/
def linkTok (c : Dev nD) (k : Fin 32) : sProp 𝕄 :=
  iprop((atPos ER (xCell c 0 k) 0 ∅ 0 ∗ dutyTok ER (xCell c 0 k) 0 false ∗ dutyTok ER (xCell (ynbr c) 1 k) 0 false)
    ∗ (atPos ER (xCell c 1 k) 0 ∅ 0 ∗ cred (tallyAt (xCell c 1 k) () NB))
    ∗ (atPos ER (xCell c 2 k) 0 ∅ 0 ∗ dutyTok ER (xCell c 2 k) 0 false ∗ dutyTok ER (xCell (xnbr c) 3 k) 0 false)
    ∗ (atPos ER (xCell c 3 k) 0 ∅ 0 ∗ cred (tallyAt (xCell c 3 k) () NB)))

/-- The counters of a device's own transfers at zero. -/
def localSems (c : Dev nD) : sProp 𝕄 :=
  iprop((bigSep Finset.univ fun s : Fin 2 => semVal ((c : Thread nD τ), .dma (lxSem s)) 0)
    ∗ (bigSep Finset.univ fun s : Fin 2 => semVal ((c : Thread nD τ), .dma (lcSem s)) 0)
    ∗ (bigSep Finset.univ fun s : Fin 2 => semVal ((c : Thread nD τ), .dma (stSem s)) 0)
    ∗ semVal ((c : Thread nD τ), .dma sgSem) 0)

/-- The scratch buffers, at any contents. -/
def scratch (c : Dev nD) : sProp 𝕄 :=
  iprop((∃ f, ((c : Thread nD τ).loc cc0_scratch4) ↦{fullShare} f) ∗ (∃ f, ((c : Thread nD τ).loc cc0_scratch5) ↦{fullShare} f)
    ∗ (∃ f, ((c : Thread nD τ).loc cc0_scratch6) ↦{fullShare} f) ∗ (∃ f, ((c : Thread nD τ).loc cc0_scratch10) ↦{fullShare} f)
    ∗ (∃ f, ((c : Thread nD τ).loc cc0_scratch11) ↦{fullShare} f))

/-- What a device holds when its body starts. -/
def start (Kn : Cells → ℕ) (c : Dev nD) : sProp 𝕄 :=
  iprop(records X Kn
    ∗ (atPos ER (bCell c) 0 ∅ 0 ∗ cred (tallyAt (bCell c) () 2) ∗ dutyTok ER (bCell (ynbr c)) 0 false ∗ dutyTok ER (bCell (xnbr c)) 0 true)
    ∗ bigSep Finset.univ (linkTok c) ∗ localSems c ∗ scratch c
    ∗ xPts c Finset.univ fullShare (X c) ∗ (∃ f, oPts c Finset.univ f) ∗ ∃ f, cPts c Finset.univ fullShare f)

/-- What a device holds when its body ends: every semaphore at zero, the scratch, its argument as it was and the result. -/
def finish (c : Dev nD) : sProp 𝕄 :=
  iprop(semVal (bCell c) 0 ∗ (bigSep Finset.univ fun p : Fin 4 × Fin 32 => semVal (xCell c p.1 p.2) 0) ∗ localSems c ∗ scratch c
    ∗ xPts c Finset.univ (qx 0) (X c) ∗ oPts c Finset.univ (result X c))

/-! ## The receiving array, shared out -/

omit [FloatOps F] in
theorem barPay_false (c : Dev nD) : (barPay (ynbr c) false : sProp 𝕄) = bigSep Finset.univ fun k : Fin 32 => iprop(∃ f, cPts c (rows c false k) fullShare f) := by
  unfold barPay; simp only [Bool.false_eq_true, if_false, ynbr_ynbr]
omit [FloatOps F] in
theorem barPay_true (c : Dev nD) : (barPay (xnbr c) true : sProp 𝕄) = bigSep Finset.univ fun k : Fin 32 => iprop(∃ f, cPts c (rows c true k) fullShare f) := by
  unfold barPay; simp only [if_true, xnbr_xnbr]

omit [FloatOps F] in
theorem rows_parts (c : Dev nD) : ∀ p p' : Bool × Fin 32, p ≠ p' → Disjoint (rows c p.1 p.2) (rows c p'.1 p'.2) := fun p p' h => rows_disjoint c h

omit [FloatOps F] in
/-- The receiving array, cut into what the barrier gives each of the two neighbours. -/
theorem comm_split (c : Dev nD) : (iprop(∃ f, cPts c Finset.univ fullShare f) : sProp 𝕄) ⊢ iprop(barPay (ynbr c) false ∗ barPay (xnbr c) true) := by
  rw [barPay_false, barPay_true]
  refine (parts_split (ℓ := (c : Thread nD τ).loc main_v1_1) (fun p : Bool × Fin 32 => rows c p.1 p.2) (rows_parts c) (rows_cover c)).trans ?_
  rw [bigSep_univ_prod, bool2]
  exact BI.Entails.refl _

omit [FloatOps F] in
theorem out_split (c : Dev nD) : (iprop(∃ f, oPts c Finset.univ f) : sProp 𝕄) ⊢ bigSep Finset.univ fun p : Bool × Fin 32 => iprop(∃ f, oPts c (rows c p.1 p.2) f) :=
  parts_split (ℓ := (c : Thread nD τ).loc main_v1_0) (fun p : Bool × Fin 32 => rows c p.1 p.2) (rows_parts c) (rows_cover c)

omit [FloatOps F] in
theorem out_join (c : Dev nD) (f : S16384x1024.Idx → F .f32) :
    (bigSep Finset.univ fun p : Bool × Fin 32 => oPts c (rows c p.1 p.2) f : sProp 𝕄) = oPts c Finset.univ f := by
  have e := pointsTo_biUnion (Val := Elt F) (Ix := Unit) (Name := ℕ) (U := UU) (Lvl := ℕ) (ℓ := (c : Thread nD τ).loc main_v1_0) (q := fullShare) (f := f)
    Finset.univ (fun p : Bool × Fin 32 => rows c p.1 p.2) fun p _ p' _ h => rows_parts c p p' h
  unfold oPts
  rw [← e, show Finset.univ.biUnion (fun p : Bool × Fin 32 => rows c p.1 p.2) = Finset.univ from rows_cover c]

omit [FloatOps F] in
theorem vx_split (c : Dev nD) : (iprop(∃ f, ((c : Thread nD τ).loc cc0_scratch4) ↦{fullShare} f) : sProp 𝕄) ⊢ bigSep Finset.univ fun s : Fin 2 => iprop(∃ f, vxPts c s f) :=
  parts_split (ℓ := (c : Thread nD τ).loc cc0_scratch4) (fun s : Fin 2 => (slot2 s).set) (fun _ _ h => slot2_disjoint h) slot2_cover
omit [FloatOps F] in
theorem vx_join (c : Dev nD) : (bigSep Finset.univ fun s : Fin 2 => iprop(∃ f, vxPts c s f)) ⊢ (iprop(∃ f, ((c : Thread nD τ).loc cc0_scratch4) ↦{fullShare} f) : sProp 𝕄) :=
  parts_join (ℓ := (c : Thread nD τ).loc cc0_scratch4) (fun s : Fin 2 => (slot2 s).set) 0 (fun _ _ h => slot2_disjoint h) slot2_cover
omit [FloatOps F] in
theorem vc_split (c : Dev nD) : (iprop(∃ f, ((c : Thread nD τ).loc cc0_scratch5) ↦{fullShare} f) : sProp 𝕄) ⊢ bigSep Finset.univ fun s : Fin 2 => iprop(∃ f, vcPts c s f) :=
  parts_split (ℓ := (c : Thread nD τ).loc cc0_scratch5) (fun s : Fin 2 => (slot2 s).set) (fun _ _ h => slot2_disjoint h) slot2_cover
omit [FloatOps F] in
theorem vc_join (c : Dev nD) : (bigSep Finset.univ fun s : Fin 2 => iprop(∃ f, vcPts c s f)) ⊢ (iprop(∃ f, ((c : Thread nD τ).loc cc0_scratch5) ↦{fullShare} f) : sProp 𝕄) :=
  parts_join (ℓ := (c : Thread nD τ).loc cc0_scratch5) (fun s : Fin 2 => (slot2 s).set) 0 (fun _ _ h => slot2_disjoint h) slot2_cover
omit [FloatOps F] in
theorem vo_split (c : Dev nD) : (iprop(∃ f, ((c : Thread nD τ).loc cc0_scratch6) ↦{fullShare} f) : sProp 𝕄) ⊢ bigSep Finset.univ fun s : Fin 2 => iprop(∃ f, voPts c s f) :=
  parts_split (ℓ := (c : Thread nD τ).loc cc0_scratch6) (fun s : Fin 2 => (slot2 s).set) (fun _ _ h => slot2_disjoint h) slot2_cover
omit [FloatOps F] in
theorem vo_join (c : Dev nD) : (bigSep Finset.univ fun s : Fin 2 => iprop(∃ f, voPts c s f)) ⊢ (iprop(∃ f, ((c : Thread nD τ).loc cc0_scratch6) ↦{fullShare} f) : sProp 𝕄) :=
  parts_join (ℓ := (c : Thread nD τ).loc cc0_scratch6) (fun s : Fin 2 => (slot2 s).set) 0 (fun _ _ h => slot2_disjoint h) slot2_cover
omit [FloatOps F] in
theorem vs_split (c : Dev nD) : (iprop(∃ f, ((c : Thread nD τ).loc cc0_scratch11) ↦{fullShare} f) : sProp 𝕄) ⊢ bigSep Finset.univ fun s : Fin 4 => iprop(∃ f, vsPts c s f) :=
  parts_split (ℓ := (c : Thread nD τ).loc cc0_scratch11) (fun s : Fin 4 => (slot4 s).set) (fun _ _ h => slot4_disjoint h) slot4_cover
omit [FloatOps F] in
theorem vs_join (c : Dev nD) : (bigSep Finset.univ fun s : Fin 4 => iprop(∃ f, vsPts c s f)) ⊢ (iprop(∃ f, ((c : Thread nD τ).loc cc0_scratch11) ↦{fullShare} f) : sProp 𝕄) :=
  parts_join (ℓ := (c : Thread nD τ).loc cc0_scratch11) (fun s : Fin 4 => (slot4 s).set) 0 (fun _ _ h => slot4_disjoint h) slot4_cover

omit [FloatOps F] in
/-- The own input, one share for each of its three uses. -/
theorem x_split (c : Dev nD) (f : S16384x1024.Idx → F .f32) :
    (xPts c Finset.univ fullShare f : sProp 𝕄) ⊢ iprop(xPts c Finset.univ (qx 0) f ∗ xPts c Finset.univ (qx 1) f ∗ xPts c Finset.univ qs f) := by
  unfold xPts
  iintro H
  ihave H := (pointsTo_share (PosShare.mem_left_op_right fullShare)).1 $$ H
  icases H with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  iexact Hrr

/-- With the neighbours' rows in hand, the four transfers of a block are ready to be issued. -/
theorem link_ready (c : Dev nD) (k : Fin 32) :
    (iprop(linkTok c k ∗ (∃ f, cPts (ynbr c) (rows (ynbr c) false k) fullShare f) ∗ ∃ f, cPts (xnbr c) (rows (xnbr c) true k) fullShare f) : sProp 𝕄)
      ⊢ iprop(sendFam c 0 0 k ∗ passFam X c 0 0 k ∗ recvFam X c 0 k) := by
  rw [sendFam_at (Nat.zero_le _) (Nat.zero_le _), passFam_at X (Nat.zero_le _), recvFam_at X (Nat.zero_le _)]
  unfold linkTok
  iintro ⟨⟨⟨Ha0, Hd0, Hd1⟩, Hr1, ⟨Ha2, Hd2, Hd3⟩, Hr3⟩, Hy, Hx⟩
  isplitl [Ha0 Hd0 Hd1 Hy]
  · isplitl [Ha0]; · iexact Ha0
    isplitl [Hd0]; · iexact Hd0
    isplitl [Hd1]; · iexact Hd1
    iexact Hy
  isplitl [Hr1 Ha2 Hd2 Hd3 Hx]
  · isplitl [Hr1]; · iexact Hr1
    isplitl [Ha2]; · iexact Ha2
    isplitl [Hd2]; · iexact Hd2
    isplitl [Hd3]; · iexact Hd3
    iexact Hx
  iexact Hr3

/-- What the barrier and the launch give is what the sends, passes and arrivals need. -/
theorem link_start (c : Dev nD) :
    iprop(bigSep Finset.univ (linkTok c) ∗ barPay c false ∗ barPay c true)
      ⊢ (iprop(bigSep Finset.univ (sendFam c 0 0) ∗ bigSep Finset.univ (passFam X c 0 0) ∗ bigSep Finset.univ (recvFam X c 0)) : sProp 𝕄) := by
  have hf : (barPay c false : sProp 𝕄) = bigSep Finset.univ fun k : Fin 32 => iprop(∃ f, cPts (ynbr c) (rows (ynbr c) false k) fullShare f) := by
    unfold barPay; simp only [Bool.false_eq_true, if_false]
  have ht : (barPay c true : sProp 𝕄) = bigSep Finset.univ fun k : Fin 32 => iprop(∃ f, cPts (xnbr c) (rows (xnbr c) true k) fullShare f) := by
    unfold barPay; simp only [if_true]
  rw [hf, ht, ← bigSep_sep', ← bigSep_sep', ← bigSep_sep', ← bigSep_sep']
  exact bigSep_mono fun k _ => link_ready X c k

/-! ## The barrier -/

/-- The barrier. -/
theorem wp_opening (Kn : Cells → ℕ) (c : Dev nD) (Q : PUnit → sProp 𝕄) :
    iprop(records X Kn ∗ (atPos ER (bCell c) 0 ∅ 0 ∗ cred (tallyAt (bCell c) () 2) ∗ dutyTok ER (bCell (ynbr c)) 0 false ∗ dutyTok ER (bCell (xnbr c)) 0 true)
        ∗ (∃ f, cPts c Finset.univ fullShare f) ∗ owesE c (owe₀ c))
      ⊢ iprop((iprop((barPay c false ∗ barPay c true) ∗ semVal (bCell c) 0 ∗ owesE c (owe c 0 0)) -∗ Q ⟨⟩) -∗ wpc c (opening c) Q) := by
  unfold opening owesE
  iintro ⟨#HR, ⟨Hat, Hc, Hd1, Hd2⟩, Hcm, %W, HO⟩ Hk
  ihave #HI := (records_inv X Kn (c, none)) $$ HR
  ihave #HIy := (records_inv X Kn (ynbr c, none)) $$ HR
  ihave #HIx := (records_inv X Kn (xnbr c, none)) $$ HR
  ihave #Hry := (records_reached X Kn (ynbr c, none)) $$ HR
  ihave #Hrx := (records_reached X Kn (xnbr c, none)) $$ HR
  ihave #HL := (records_lev X Kn) $$ HR
  ihave Hcm := (comm_split c) $$ Hcm
  icases Hcm with ⟨Hcy, Hcx⟩
  simp only [semSignalWord, semWaitWord, Prog.lift, Prog.bind_op, Prog.bind_ret, Prog.pure_eq_ret]
  iapply (Rounds.wp_signal 𝒱₀ ER (linkRd X) (c : Thread nD τ) none (dst := (ynbr c : Thread nD τ)) (κ := Kn (ynbr c, none))
      (d := false) (by rw [duties_bar]; exact Finset.mem_univ _) ((amount_bar X (ynbr c) false).trans (by decide)) () (owe₁ c) rfl)
    $$ [HO Hd1 Hcy]
  · isplitr; · iexact HIy
    isplitl [HO]; · iexact HO
    isplitl [Hd1]; · iexact Hd1
    isplitl [Hcy]
    · rw [payload_bar]; iexact Hcy
    iexact Hry
  iintro HO
  iapply (Rounds.wp_signal 𝒱₀ ER (linkRd X) (c : Thread nD τ) none (dst := (xnbr c : Thread nD τ)) (κ := Kn (xnbr c, none))
      (d := true) (by rw [duties_bar]; exact Finset.mem_univ _) ((amount_bar X (xnbr c) true).trans (by decide)) () (owe c 0 0) rfl)
    $$ [HO Hd2 Hcx]
  · isplitr; · iexact HIx
    isplitl [HO]; · iexact HO
    isplitl [Hd2]; · iexact Hd2
    isplitl [Hcx]
    · rw [payload_bar]; iexact Hcx
    iexact Hrx
  iintro HO
  iapply (Rounds.wp_wait_rest_token 𝒱₀ ER (linkRd X) (c : Thread nD τ) none (κ := Kn (c, none))
      (wpE_semWait_eq 𝒱₀ (c : Thread nD τ) none Set.univ) (Set.mem_univ _) () (O := owe c 0 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barSem) 0 0 (fun k _ _ => by show 1 < 2 * k + 2; omega) (fun k _ _ => by show 1 < 2 * k + 3; omega)); iexact HL
    iexact Hat
  iintro ⟨HO, Hat, -, Hpay⟩
  ihave Hp := (Entails.of_eq (rest_bar X c)) $$ Hpay
  imod (Rounds.cell_close ER (linkRd X) (Set.mem_univ (Kn (c, none))) (fun h => h) (R := 0 + 1) (duties_later X (bCell c))) $$ [Hat] with Hz
  · isplitr; · iexact HI
    iexact Hat
  rw [wp_ret]; imodintro
  iapply Hk
  isplitl [Hp]; · iexact Hp
  isplitl [Hz]; · iexact Hz
  iexists _; iexact HO

/-! ## The first sends -/

/-- The send slots, those before `n` in use. -/
def freeSlots (c : Dev nD) (n : ℕ) (s : Fin 4) : sProp 𝕄 := if s.val < n then iprop(emp) else iprop(∃ f, vsPts c s f)

/-- One of the first four sends, which need not wait for a slot. -/
theorem wp_firstSend (Kn : Cells → ℕ) (c : Dev nD) (k : ℕ) (hk : k < 4) (Q : PUnit → sProp 𝕄) :
    iprop(records X Kn ∗ owesE c (owe c k 0) ∗ bigSep Finset.univ (sendFam c 0 k) ∗ stageS X c ∗ bigSep Finset.univ (freeSlots c k))
      ⊢ iprop((iprop(records X Kn ∗ owesE c (owe c (k + 1) 0) ∗ bigSep Finset.univ (sendFam c 0 (k + 1)) ∗ stageS X c ∗ bigSep Finset.univ (freeSlots c (k + 1))) -∗ Q ⟨⟩)
          -∗ wpc c (send c (blk k) (sendSlot k)) Q) := by
  have hv : (blk k).val = k := Nat.mod_eq_of_lt (by omega)
  have hs : (sendSlot k).val = k := Nat.mod_eq_of_lt hk
  have e : (freeSlots c k (sendSlot k) : sProp 𝕄) = iprop(∃ f, vsPts c (sendSlot k) f) := by unfold freeSlots; rw [hs, if_neg (by omega)]
  have e' : (freeSlots c (k + 1) (sendSlot k) : sProp 𝕄) = iprop(emp) := by unfold freeSlots; rw [hs, if_pos (by omega)]
  have h := wp_send_fam X Kn c (blk k) 0 0 (Nat.zero_le _) Q
  rw [hv] at h
  iintro ⟨#HR, HO, HS, Hst, Hv⟩ Hk
  ihave Hv := (bigSep_step (sendSlot k) (Φ := freeSlots c k) (Ψ := freeSlots c (k + 1)) e e' (fun j hj => by
    have : j.val ≠ k := fun h => hj (Fin.ext (h.trans hs.symm))
    unfold freeSlots
    by_cases h : j.val < k
    · rw [if_pos h, if_pos (by omega)]
    · rw [if_neg h, if_neg (by omega)])) $$ Hv
  icases Hv with ⟨Hv, Hvb⟩
  iapply h $$ [HO HS Hst Hv]
  · isplitr; · iexact HR
    isplitl [Hv]; · iexact Hv
    isplitl [HO]; · iexact HO
    isplitl [HS]; · iexact HS
    iexact Hst
  iintro ⟨HO, HS, Hst⟩
  iapply Hk
  isplitr; · iexact HR
  isplitl [HO]; · iexact HO
  isplitl [HS]; · iexact HS
  isplitl [Hst]; · iexact Hst
  iapply Hvb; iempintro

/-! ## The closing waits -/

/-- The send slots, those of the departures before `n` back. -/
def backSlots (c : Dev nD) (n : ℕ) (s : Fin 4) : sProp 𝕄 := if s.val + 28 < n then iprop(∃ f, vsPts c s f) else iprop(emp)

/-- One of the last four waits for a send to have left. -/
theorem wp_lastSent (Kn : Cells → ℕ) (c : Dev nD) (k : ℕ) (h28 : 28 ≤ k) (hk : k < 32) (Q : PUnit → sProp 𝕄) :
    iprop(records X Kn ∗ owesE c (owe c 32 32) ∗ bigSep Finset.univ (sendFam c k 32) ∗ bigSep Finset.univ (backSlots c k))
      ⊢ iprop((iprop(records X Kn ∗ owesE c (owe c 32 32) ∗ bigSep Finset.univ (sendFam c (k + 1) 32) ∗ bigSep Finset.univ (backSlots c (k + 1))) -∗ Q ⟨⟩)
          -∗ wpc c (waitSent c (blk k) (sendSlot k)) Q) := by
  have hv : (blk k).val = k := Nat.mod_eq_of_lt hk
  have hs : (sendSlot k).val + 28 = k := by show k % 4 + 28 = k; omega
  have e' : (backSlots c (k + 1) (sendSlot k) : sProp 𝕄) = iprop(∃ f, vsPts c (sendSlot k) f) := by unfold backSlots; rw [hs, if_pos (by omega)]
  have h := wp_waitSent_fam X Kn c (blk k) 32 32 (by rw [hv]; exact hk) (sendSlot k) Q
  rw [hv] at h
  iintro ⟨#HR, HO, HS, Hv⟩ Hk
  ihave Hv := (bigSep_step (sendSlot k) (Φ := backSlots c k) (Ψ := backSlots c (k + 1)) rfl e' (fun j hj => by
    have : j.val + 28 ≠ k := fun h => hj (Fin.ext (by omega))
    unfold backSlots
    by_cases h : j.val + 28 < k
    · rw [if_pos h, if_pos (by omega)]
    · rw [if_neg h, if_neg (by omega)])) $$ Hv
  icases Hv with ⟨-, Hvb⟩
  iapply h $$ [HO HS]
  · isplitr; · iexact HR
    isplitl [HO]; · iexact HO
    iexact HS
  iintro ⟨Hv, HO, HS⟩
  iapply Hk
  isplitr; · iexact HR
  isplitl [HO]; · iexact HO
  isplitl [HS]; · iexact HS
  iapply Hvb; iexact Hv

/-- The passes, all issued, `n` of their departures awaited. -/
def endFam (c : Dev nD) (n : ℕ) (k : Fin 32) : sProp 𝕄 :=
  if k.val < n then iprop(semVal (xCell c 1 k) 0 ∗ semVal (xCell c 2 k) 0) else passFam X c 32 32 k

/-- One of the last waits for a pass to have left. -/
theorem wp_lastPassed (Kn : Cells → ℕ) (c : Dev nD) (k : ℕ) (hk : k < 32) (Q : PUnit → sProp 𝕄) :
    iprop(records X Kn ∗ owesE c (owe c 32 32) ∗ bigSep Finset.univ (endFam X c k))
      ⊢ iprop((iprop(records X Kn ∗ owesE c (owe c 32 32) ∗ bigSep Finset.univ (endFam X c (k + 1))) -∗ Q ⟨⟩)
          -∗ wpc c (waitPassed c (blk k)) Q) := by
  have hv : (blk k).val = k := Nat.mod_eq_of_lt hk
  have e : endFam X c k (blk k) = passFam X c 32 32 (blk k) := by unfold endFam; rw [hv, if_neg (Nat.lt_irrefl _)]
  have e' : endFam X c (k + 1) (blk k) = iprop(semVal (xCell c 1 (blk k)) 0 ∗ semVal (xCell c 2 (blk k)) 0) := by
    unfold endFam; rw [hv, if_pos (Nat.lt_succ_self _)]
  iintro ⟨#HR, HO, HS⟩ Hk
  ihave HS := (bigSep_step (blk k) (Φ := endFam X c k) (Ψ := endFam X c (k + 1)) (e.trans (passFam_done X (blk k).isLt)) e' (fun j hj => by
    have : j.val ≠ k := fun h => hj (Fin.ext (h.trans hv.symm))
    unfold endFam
    by_cases h : j.val < k
    · rw [if_pos h, if_pos (by omega)]
    · rw [if_neg h, if_neg (by omega)])) $$ HS
  icases HS with ⟨⟨Hz1, -, Hat, Hc⟩, HSb⟩
  iapply (wp_waitPassed X Kn c (blk k) 32 32 Q) $$ [HO Hat Hc]
  · isplitr; · iexact HR
    isplitl [Hat]; · iexact Hat
    isplitl [Hc]; · iexact Hc
    iexact HO
  iintro ⟨-, Hz2, HO⟩
  iapply Hk
  isplitr; · iexact HR
  isplitl [HO]; · iexact HO
  iapply HSb
  isplitl [Hz1]; · iexact Hz1
  iexact Hz2

/-- Every block of the result done is the result. -/
theorem outFam_all (c : Dev nD) : (bigSep Finset.univ (outFam X c 64 64) : sProp 𝕄) = oPts c Finset.univ (result X c) := by
  rw [← out_join c (result X c)]
  refine bigSep_congr fun p _ => ?_
  unfold outFam; rw [if_pos (taskIx_lt p)]

end Cert.KernelIdeal.Work

end
-- ==== Proof.Run.lean ====
/-
  The whole body on one device put together: the barrier, the first sends, the tasks and the closing waits.
-/
module

public import proofs.«01_k».proof.Proof.Body

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal Cert.KernelIdeal.Gen

variable {F : FTy → Type} [FloatOps F]

local notation "𝕄" => MT nD τ sig Unit (Elt F) ℕ UU ℕ

variable (X : Inp F)

/-- What a device holds before the first task, spelled out. -/
theorem inv_first (c : Dev nD) : inv X c 0 = iprop(linkS X c 0 4 0 0 ∗ (xBusy X c 0 ∗ xIdle X c 1) ∗ (cIdle c 0 ∗ cIdle c 1)
    ∗ (oIdle c 0 ∗ oIdle c 1) ∗ bigSep Finset.univ fun p : Bool × Fin 32 => iprop(∃ f, oPts c (rows c p.1 p.2) f)) := by
  unfold inv xNow oNow
  rw [if_pos (show 0 < 64 by decide), if_pos (show 0 < 2 by decide), if_pos (show 0 + 1 < 2 by decide)]
  have e : (bigSep Finset.univ (outFam X c (0 - 2) 0) : sProp 𝕄) = bigSep Finset.univ fun p : Bool × Fin 32 => iprop(∃ f, oPts c (rows c p.1 p.2) f) :=
    bigSep_congr fun p _ => by unfold outFam; rw [if_neg (Nat.not_lt_zero _), if_neg (Nat.not_lt_zero _)]
  rw [e]
  rfl

/-- What it holds after the last task, spelled out. -/
theorem inv_last (c : Dev nD) : inv X c 64 = iprop(linkS X c 28 32 32 32 ∗ (xIdle X c 0 ∗ xIdle X c 1) ∗ (cIdle c 0 ∗ cIdle c 1)
    ∗ (storing X c (taskB 62) (taskK 62) 0 ∗ storing X c (taskB 63) (taskK 63) 1) ∗ bigSep Finset.univ (outFam X c 62 64)) := by
  unfold inv xNow oNow
  rw [if_neg (show ¬ 64 < 64 by decide), if_neg (show ¬ 64 < 2 by decide), if_neg (show ¬ 64 + 1 < 2 by decide)]
  rfl

/-- Every counter of the transfers at zero. -/
theorem link_end (c : Dev nD) :
    iprop(bigSep Finset.univ (sendFam c 32 32) ∗ bigSep Finset.univ (endFam X c 32) ∗ bigSep Finset.univ (recvFam X c 32))
      ⊢ (bigSep Finset.univ fun p : Fin 4 × Fin 32 => semVal (xCell c p.1 p.2) 0 : sProp 𝕄) := by
  have e0 : (bigSep Finset.univ (sendFam c 32 32) : sProp 𝕄) = bigSep Finset.univ fun k => semVal (xCell c 0 k) 0 :=
    bigSep_congr fun k _ => sendFam_left k.isLt
  have e1 : (bigSep Finset.univ (endFam X c 32) : sProp 𝕄)
      = iprop((bigSep Finset.univ fun k => semVal (xCell c 1 k) 0) ∗ bigSep Finset.univ fun k => semVal (xCell c 2 k) 0) := by
    rw [← bigSep_sep']
    exact bigSep_congr fun k _ => if_pos k.isLt
  have h3 : (bigSep Finset.univ (recvFam X c 32) : sProp 𝕄) ⊢ bigSep Finset.univ fun k => semVal (xCell c 3 k) 0 := by
    refine bigSep_mono fun k _ => ?_
    show recvFam X c 32 k ⊢ iprop(semVal (xCell c 3 k) 0)
    rw [recvFam_done X k.isLt]
    iintro ⟨H, -⟩; iexact H
  rw [bigSep_univ_prod, fin4, e0, e1]
  iintro ⟨H0, ⟨H1, H2⟩, H3⟩
  isplitl [H0]; · iexact H0
  isplitl [H1]; · iexact H1
  isplitl [H2]; · iexact H2
  iapply h3; iexact H3

theorem endFam_zero (c : Dev nD) : (bigSep Finset.univ (passFam X c 32 32) : sProp 𝕄) = bigSep Finset.univ (endFam X c 0) :=
  bigSep_congr fun k _ => (if_neg (Nat.not_lt_zero _)).symm

omit [FloatOps F] in
theorem freeSlots_zero (c : Dev nD) : (bigSep Finset.univ (freeSlots c 0) : sProp 𝕄) = bigSep Finset.univ fun s : Fin 4 => iprop(∃ f, vsPts c s f) :=
  bigSep_congr fun k _ => if_neg (Nat.not_lt_zero _)
omit [FloatOps F] in
theorem backSlots_zero (c : Dev nD) : (bigSep Finset.univ (backSlots c 28) : sProp 𝕄) = iprop(emp) := by
  rw [show (iprop(emp) : sProp 𝕄) = bigSep Finset.univ fun _ : Fin 4 => iprop(emp) from (bigSep_emp_const _).symm]
  exact bigSep_congr fun k _ => if_neg (by omega)
omit [FloatOps F] in
theorem backSlots_all (c : Dev nD) : (bigSep Finset.univ (backSlots c 32) : sProp 𝕄) = bigSep Finset.univ fun s : Fin 4 => iprop(∃ f, vsPts c s f) :=
  bigSep_congr fun k _ => if_pos (by have := k.isLt; omega)

/-- The local counters and the scratch buffers, put together again. -/
theorem local_end (c : Dev nD) :
    iprop((xIdle X c 0 ∗ xIdle X c 1) ∗ (cIdle c 0 ∗ cIdle c 1) ∗ (oIdle c 0 ∗ oIdle c 1) ∗ stageS X c
        ∗ bigSep Finset.univ fun s : Fin 4 => iprop(∃ f, vsPts c s f))
      ⊢ (iprop(localSems c ∗ scratch c ∗ xPts c Finset.univ (qx 0) (X c)) : sProp 𝕄) := by
  unfold xIdle cIdle oIdle stageS localSems scratch
  iintro ⟨⟨⟨Hx0, Hvx0, Hp⟩, Hx1, Hvx1, -⟩, ⟨⟨Hc0, Hvc0⟩, Hc1, Hvc1⟩, ⟨⟨Ho0, Hvo0⟩, Ho1, Hvo1⟩, ⟨-, Hg, Hst⟩, Hvs⟩
  isplitl [Hx0 Hx1 Hc0 Hc1 Ho0 Ho1 Hg]
  · isplitl [Hx0 Hx1]
    · iapply (Entails.of_eq (fin2 _).symm)
      isplitl [Hx0]; · iexact Hx0
      iexact Hx1
    isplitl [Hc0 Hc1]
    · iapply (Entails.of_eq (fin2 _).symm)
      isplitl [Hc0]; · iexact Hc0
      iexact Hc1
    isplitl [Ho0 Ho1]
    · iapply (Entails.of_eq (fin2 _).symm)
      isplitl [Ho0]; · iexact Ho0
      iexact Ho1
    iexact Hg
  isplitr [Hp]
  · isplitl [Hvx0 Hvx1]
    · iapply (vx_join c)
      iapply (Entails.of_eq (fin2 _).symm)
      isplitl [Hvx0]; · iexact Hvx0
      iexact Hvx1
    isplitl [Hvc0 Hvc1]
    · iapply (vc_join c)
      iapply (Entails.of_eq (fin2 _).symm)
      isplitl [Hvc0]; · iexact Hvc0
      iexact Hvc1
    isplitl [Hvo0 Hvo1]
    · iapply (vo_join c)
      iapply (Entails.of_eq (fin2 _).symm)
      isplitl [Hvo0]; · iexact Hvo0
      iexact Hvo1
    isplitl [Hst]; · iexact Hst
    iapply (vs_join c); iexact Hvs
  iexact Hp

/-- The closing waits. -/
theorem wp_closing (Kn : Cells → ℕ) (c : Dev nD) (Q : PUnit → sProp 𝕄) :
    iprop(records X Kn ∗ inv X c 64)
      ⊢ iprop((iprop(((bigSep Finset.univ fun p : Fin 4 × Fin 32 => semVal (xCell c p.1 p.2) 0) ∗ localSems c ∗ scratch c
          ∗ xPts c Finset.univ (qx 0) (X c) ∗ oPts c Finset.univ (result X c))
          ∗ owesE c 0) -∗ Q ⟨⟩) -∗ wpc c (closing c) Q) := by
  rw [inv_last]
  unfold linkS closing
  iintro ⟨#HR, ⟨HO, HS, HP, HV, Hst⟩, Hx, Hc, ⟨Ho0, Ho1⟩, Hout⟩ Hk
  rw [wpc_bind]
  iapply (wp_waitOut X Kn c (taskB 62) (taskK 62) 0 32 32 _) $$ [Ho0 HO]
  · isplitr; · iexact HR
    isplitl [Ho0]; · iexact Ho0
    iexact HO
  iintro ⟨⟨Hr0, Hvo0⟩, Hz0, HO⟩
  ihave Hout := (outFam_done X c 62 64 (by decide) (by decide)) $$ [Hout Hr0]
  · isplitl [Hout]; · iexact Hout
    iexact Hr0
  rw [wpc_bind]
  iapply (wp_waitOut X Kn c (taskB 63) (taskK 63) 1 32 32 _) $$ [Ho1 HO]
  · isplitr; · iexact HR
    isplitl [Ho1]; · iexact Ho1
    iexact HO
  iintro ⟨⟨Hr1, Hvo1⟩, Hz1, HO⟩
  ihave Hout := (outFam_done X c 63 64 (by decide) (by decide)) $$ [Hout Hr1]
  · isplitl [Hout]; · iexact Hout
    iexact Hr1
  ihave Hout := (Entails.of_eq (outFam_all X c)) $$ Hout
  iapply (wp_steps c (fun k => iprop(records X Kn ∗ owesE c (owe c 32 32) ∗ bigSep Finset.univ (sendFam c k 32) ∗ bigSep Finset.univ (backSlots c k)))
      (fun k => waitSent c (blk k) (sendSlot k)) _ Q 4 28 (fun k h h' Q' => wp_lastSent X Kn c k h (by omega) Q')) $$ [HO HS]
  · isplitr; · iexact HR
    isplitl [HO]; · iexact HO
    isplitl [HS]; · iexact HS
    iapply (Entails.of_eq (backSlots_zero c).symm); iempintro
  iintro ⟨-, HO, HS, Hvs⟩
  ihave Hvs := (Entails.of_eq (backSlots_all c)) $$ Hvs
  ihave HP := (Entails.of_eq (endFam_zero X c)) $$ HP
  iapply (wp_steps c (fun k => iprop(records X Kn ∗ owesE c (owe c 32 32) ∗ bigSep Finset.univ (endFam X c k)))
      (fun k => waitPassed c (blk k)) _ Q 32 0 (fun k _ h' Q' => wp_lastPassed X Kn c k (by omega) Q')) $$ [HO HP]
  · isplitr; · iexact HR
    isplitl [HO]; · iexact HO
    iexact HP
  iintro ⟨-, HO, HP⟩
  have hr : Q ⟨⟩ ⊢ wpc c (pure ⟨⟩) Q := by
    unfold wpc
    rw [Prog.pure_eq_ret, wp_ret]
    iintro H; imodintro; iexact H
  iapply hr
  iapply Hk
  isplitr [HO]
  · isplitl [HS HP HV]
    · iapply (link_end X c)
      isplitl [HS]; · iexact HS
      isplitl [HP]; · iexact HP
      iexact HV
    ihave HL := (local_end X c) $$ [Hx Hc Hvo0 Hz0 Hvo1 Hz1 Hst Hvs]
    · isplitl [Hx]; · iexact Hx
      isplitl [Hc]; · iexact Hc
      isplitl [Hvo0 Hz0 Hvo1 Hz1]
      · isplitl [Hvo0 Hz0]
        · unfold oIdle
          isplitl [Hz0]; · iexact Hz0
          iexact Hvo0
        unfold oIdle
        isplitl [Hz1]; · iexact Hz1
        iexact Hvo1
      isplitl [Hst]; · iexact Hst
      iexact Hvs
    icases HL with ⟨Hls, Hsc, Hxp⟩
    isplitl [Hls]; · iexact Hls
    isplitl [Hsc]; · iexact Hsc
    isplitl [Hxp]; · iexact Hxp
    iexact Hout
  iapply (Entails.of_eq (congrArg (owesE c) (owe_done c (Nat.le_refl 32) (Nat.le_refl 32)))); iexact HO

/-- What the tasks start from, with the first load in flight. -/
theorem local_start (c : Dev nD) :
    (iprop(localSems c ∗ scratch c ∗ xPts c Finset.univ fullShare (X c)) : sProp 𝕄)
      ⊢ iprop((xIdle X c 0 ∗ xIdle X c 1) ∗ (cIdle c 0 ∗ cIdle c 1) ∗ (oIdle c 0 ∗ oIdle c 1) ∗ stageS X c ∗ bigSep Finset.univ (freeSlots c 0)) := by
  unfold xIdle cIdle oIdle stageS localSems scratch
  rw [freeSlots_zero, fin2, fin2, fin2]
  iintro ⟨⟨⟨Hx0, Hx1⟩, ⟨Hc0, Hc1⟩, ⟨Ho0, Ho1⟩, Hg⟩, ⟨Hvx, Hvc, Hvo, Hst, Hvs⟩, Hx⟩
  ihave Hvx := (vx_split c) $$ Hvx
  ihave Hvx := (Entails.of_eq (fin2 _)) $$ Hvx
  icases Hvx with ⟨Hvx0, Hvx1⟩
  ihave Hvc := (vc_split c) $$ Hvc
  ihave Hvc := (Entails.of_eq (fin2 _)) $$ Hvc
  icases Hvc with ⟨Hvc0, Hvc1⟩
  ihave Hvo := (vo_split c) $$ Hvo
  ihave Hvo := (Entails.of_eq (fin2 _)) $$ Hvo
  icases Hvo with ⟨Hvo0, Hvo1⟩
  ihave Hvs := (vs_split c) $$ Hvs
  ihave Hx := (x_split c (X c)) $$ Hx
  icases Hx with ⟨Hp0, Hp1, Hps⟩
  isplitl [Hx0 Hx1 Hvx0 Hvx1 Hp0 Hp1]
  · isplitl [Hx0 Hvx0 Hp0]
    · isplitl [Hx0]; · iexact Hx0
      isplitl [Hvx0]; · iexact Hvx0
      iexact Hp0
    isplitl [Hx1]; · iexact Hx1
    isplitl [Hvx1]; · iexact Hvx1
    iexact Hp1
  isplitl [Hc0 Hc1 Hvc0 Hvc1]
  · isplitl [Hc0 Hvc0]
    · isplitl [Hc0]; · iexact Hc0
      iexact Hvc0
    isplitl [Hc1]; · iexact Hc1
    iexact Hvc1
  isplitl [Ho0 Ho1 Hvo0 Hvo1]
  · isplitl [Ho0 Hvo0]
    · isplitl [Ho0]; · iexact Ho0
      iexact Hvo0
    isplitl [Ho1]; · iexact Ho1
    iexact Hvo1
  isplitr [Hvs]
  · isplitl [Hps]; · iexact Hps
    isplitl [Hg]; · iexact Hg
    iexact Hst
  iexact Hvs

/-- The body's run on one device: from `start`, owing every arrival, to `finish`, owing nothing. -/
theorem run_body (Kn : Cells → ℕ) (c : Dev nD) (Q : PUnit → sProp 𝕄) :
    iprop(start X Kn c ∗ owesE c (owe₀ c)) ⊢ iprop((iprop(finish X c ∗ owesE c 0) -∗ Q ⟨⟩) -∗ wpc c body Q) := by
  unfold start finish body
  iintro ⟨⟨#HR, Hb, Hlk, Hls, Hsc, Hx, Ho, Hcm⟩, HO⟩ Hk
  rw [wpc_bind]
  have hd : ∀ Q' : Dev nD → sProp 𝕄, Q' c ⊢ wpc c (Prog.lift .deviceId) Q' := fun Q' => by
    unfold wpc Prog.lift
    rw [wp_deviceId, wp_ret]
    iintro H; imodintro; iexact H
  iapply (hd _)
  rw [wpc_bind]
  iapply (wp_opening X Kn c _) $$ [Hb Hcm HO]
  · isplitr; · iexact HR
    isplitl [Hb]; · iexact Hb
    isplitl [Hcm]; · iexact Hcm
    iexact HO
  iintro ⟨Hp, Hzb, HO⟩
  ihave Hl := (link_start X c) $$ [Hlk Hp]
  · isplitl [Hlk]; · iexact Hlk
    iexact Hp
  icases Hl with ⟨HS, HP, HV⟩
  ihave Hl := (local_start X c) $$ [Hls Hsc Hx]
  · isplitl [Hls]; · iexact Hls
    isplitl [Hsc]; · iexact Hsc
    iexact Hx
  icases Hl with ⟨⟨Hx0, Hx1⟩, Hc, Hos, Hst, Hvs⟩
  iapply (wp_steps c (fun k => iprop(records X Kn ∗ owesE c (owe c k 0) ∗ bigSep Finset.univ (sendFam c 0 k) ∗ stageS X c ∗ bigSep Finset.univ (freeSlots c k)))
      (fun k => send c (blk k) (sendSlot k)) _ Q 4 0 (fun k _ h' Q' => wp_firstSend X Kn c k (by omega) Q')) $$ [HO HS Hst Hvs]
  · isplitr; · iexact HR
    isplitl [HO]; · iexact HO
    isplitl [HS]; · iexact HS
    isplitl [Hst]; · iexact Hst
    iexact Hvs
  iintro ⟨-, HO, HS, Hst, -⟩
  unfold xIdle
  icases Hx0 with ⟨Hz, Hv, Hx⟩
  ihave Hx := (xPts_rows c (taskB 0) (taskK 0) (qx 0) (X c)) $$ Hx
  icases Hx with ⟨Hx, Hxb⟩
  rw [wpc_bind]
  iapply (wp_loadX X c false 0 0 (qx 0) _) $$ [Hz Hv Hx]
  · isplitl [Hx]; · iexact Hx
    isplitl [Hv]; · iexact Hv
    iexact Hz
  iintro Hld
  ihave Ho := (out_split c) $$ Ho
  iapply (wp_steps c (fun t => iprop(records X Kn ∗ inv X c t)) (fun t => do head c t; tail c t) _ Q 64 0
      (fun t _ h' Q' => wp_task X Kn c t (by omega) Q')) $$ [HO HS HP HV Hst Hld Hxb Hx1 Hc Hos Ho]
  · isplitr; · iexact HR
    iapply (Entails.of_eq (inv_first X c).symm)
    unfold linkS xBusy xIdle
    isplitl [HO HS HP HV Hst]
    · isplitl [HO]; · iexact HO
      isplitl [HS]; · iexact HS
      isplitl [HP]; · iexact HP
      isplitl [HV]; · iexact HV
      iexact Hst
    isplitl [Hld Hxb Hx1]
    · isplitl [Hld Hxb]
      · isplitl [Hld]; · iexact Hld
        iexact Hxb
      iexact Hx1
    isplitl [Hc]; · iexact Hc
    isplitl [Hos]; · iexact Hos
    iexact Ho
  iintro ⟨-, Hi⟩
  iapply (wp_closing X Kn c Q) $$ [Hi]
  · isplitr; · iexact HR
    iexact Hi
  iintro ⟨Hf, HO⟩
  iapply Hk
  isplitr [HO]
  · isplitl [Hzb]; · iexact Hzb
    iexact Hf
  iexact HO

end Cert.KernelIdeal.Work

end
-- ==== Proof.Deal.lean ====
/-
  What the launch deals out: the protocol's cells opened on every device at once, the duties' tokens handed to the
  devices that pay them, and the credits each device starts from.
-/
module

public import proofs.«01_k».proof.Proof.Body

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal Cert.KernelIdeal.Gen

variable {F : FTy → Type} [FloatOps F]

local notation "𝕄" => MT nD τ sig Unit (Elt F) ℕ UU ℕ

/-! ## The cells and their tokens -/

theorem kcell_injective : Function.Injective (kcell : Cells → GSem nD τ sig) := by
  rintro ⟨c, o⟩ ⟨c', o'⟩ h
  have hc : c = c' := by
    have := congrArg (fun g : GSem nD τ sig => g.1.1) h
    cases o <;> cases o' <;> exact this
  subst hc
  cases o with
  | none => cases o' with
    | none => rfl
    | some p' => exact absurd (congrArg Prod.snd h) (fun h' => by cases h')
  | some p => cases o' with
    | none => exact absurd (congrArg Prod.snd h) (fun h' => by cases h')
    | some p' =>
      have h' : xsem p.1 p.2 = xsem p'.1 p'.2 := SemLoc.dma.inj (congrArg Prod.snd h)
      rw [show p = p' from Prod.ext (xsem_inj h').1 (xsem_inj h').2]

/-- The cells of the protocol. -/
def linkCells : Finset (GSem nD τ sig) := Finset.univ.map ⟨kcell, kcell_injective⟩

/-- The duties of a device's cells: the barrier's two, and one of each transfer cell. -/
abbrev DutyIx : Type := Bool ⊕ (Fin 4 × Fin 32)
abbrev tokOf (x : Dev nD × DutyIx) : GSem nD τ sig × ℕ × Bool := match x.2 with
  | .inl b => (bCell x.1, 0, b)
  | .inr p => (xCell x.1 p.1 p.2, 0, false)

theorem tokOf_injective : Function.Injective (tokOf : Dev nD × DutyIx → GSem nD τ sig × ℕ × Bool) := by
  rintro ⟨c, o⟩ ⟨c', o'⟩ h
  have hc : c = c' := by
    have := congrArg (fun g : GSem nD τ sig × ℕ × Bool => g.1.1.1) h
    cases o <;> cases o' <;> exact this
  subst hc
  cases o with
  | inl b => cases o' with
    | inl b' => rw [show b = b' from congrArg (fun g : GSem nD τ sig × ℕ × Bool => g.2.2) h]
    | inr p' => exact absurd (congrArg (fun g : GSem nD τ sig × ℕ × Bool => g.1.2) h) (fun h' => by cases h')
  | inr p => cases o' with
    | inl b' => exact absurd (congrArg (fun g : GSem nD τ sig × ℕ × Bool => g.1.2) h) (fun h' => by cases h')
    | inr p' =>
      have h' : xsem p.1 p.2 = xsem p'.1 p'.2 := SemLoc.dma.inj (congrArg (fun g : GSem nD τ sig × ℕ × Bool => g.1.2) h)
      rw [show p = p' from Prod.ext (xsem_inj h').1 (xsem_inj h').2]

/-- The duties' tokens. -/
def linkToks : Finset (GSem nD τ sig × ℕ × Bool) := Finset.univ.map ⟨tokOf, tokOf_injective⟩

/-- The ghost state at launch: the region's part, and the protocol's. -/
def u₀ : UU := (initOf (Pipeline.cells cfgs cellOf_inj) (Pipeline.launchToks cfgs cellOf_inj), (initOf linkCells linkToks, 1))

omit [FloatOps F] in
theorem u₀_split : (ownU u₀ : sProp 𝕄)
    ⊢ iprop(BI.own (EP (initOf (Pipeline.cells cfgs cellOf_inj) (Pipeline.launchToks cfgs cellOf_inj))) ∗ BI.own (ER (initOf linkCells linkToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf linkCells linkToks, (1 : Counters)))))

variable (X : Inp F)

/-- The tokens of the duties of device `c`'s cells. -/
def cellToks (c : Dev nD) (j : Fin 4) : sProp 𝕄 := bigSep Finset.univ fun k : Fin 32 => dutyTok ER (xCell c j k) 0 false
def toks (c : Dev nD) : sProp 𝕄 :=
  iprop((dutyTok ER (bCell c) 0 false ∗ dutyTok ER (bCell c) 0 true) ∗ cellToks c 0 ∗ cellToks c 1 ∗ cellToks c 2 ∗ cellToks c 3)
/-- The tokens of the duties device `c` pays. -/
def payToks (c : Dev nD) : sProp 𝕄 :=
  iprop((dutyTok ER (bCell (ynbr c)) 0 false ∗ dutyTok ER (bCell (xnbr c)) 0 true) ∗ cellToks c 0 ∗ cellToks (ynbr c) 1 ∗ cellToks c 2 ∗ cellToks (xnbr c) 3)

omit [FloatOps F] in
/-- Every token goes to the neighbour that pays with it. -/
theorem toks_around : (bigSep Finset.univ fun c : Dev nD => (toks c : sProp 𝕄)) = bigSep Finset.univ fun c : Dev nD => payToks c := by
  unfold toks payToks
  simp only [bigSep_sep']
  rw [bigSep_univ_equiv yswap (fun c : Dev nD => (dutyTok ER (bCell c) 0 false : sProp 𝕄)),
    bigSep_univ_equiv xswap (fun c : Dev nD => (dutyTok ER (bCell c) 0 true : sProp 𝕄)),
    bigSep_univ_equiv yswap (fun c : Dev nD => (cellToks c 1 : sProp 𝕄)),
    bigSep_univ_equiv xswap (fun c : Dev nD => (cellToks c 3 : sProp 𝕄))]
  rfl

/-- What the launch element deals device `c`. -/
def G (c : Dev nD) : sProp 𝕄 :=
  iprop((bigSep Finset.univ fun o : Option (Fin 4 × Fin 32) => roundState ER (linkRd X) (kcell (c, o)) 0)
    ∗ (bigSep Finset.univ fun o : Option (Fin 4 × Fin 32) => reached ER (kcell (c, o)) 0)
    ∗ (bigSep Finset.univ fun o : Option (Fin 4 × Fin 32) => atPos ER (kcell (c, o)) 0 ∅ 0) ∗ toks c)

/-- The ghost state is dealt to the devices. -/
theorem deal : BI.own (ER (initOf linkCells linkToks)) ⊢ (|==> bigSep Finset.univ (G X) : sProp 𝕄) := by
  have hC (Φ : GSem nD τ sig → sProp 𝕄) : bigSep linkCells Φ
      = bigSep Finset.univ fun c : Dev nD => bigSep Finset.univ fun o : Option (Fin 4 × Fin 32) => Φ (kcell (c, o)) := by
    unfold linkCells; rw [bigSep_map, bigSep_univ_prod]; rfl
  have hT : bigSep linkToks (fun x => (dutyTok ER x.1 x.2.1 x.2.2 : sProp 𝕄)) = bigSep Finset.univ fun c : Dev nD => toks c := by
    unfold linkToks; rw [bigSep_map, bigSep_univ_prod]
    refine bigSep_congr fun c _ => ?_
    unfold toks cellToks
    rw [bigSep_univ_sum, bigSep_univ_prod, bool2, fin4]
    rfl
  have hG : bigSep Finset.univ (G X)
      = iprop((bigSep linkCells fun g => roundState ER (linkRd X) g 0) ∗ (bigSep linkCells fun g => reached ER g 0)
          ∗ (bigSep linkCells fun g => atPos ER g 0 ∅ 0) ∗ bigSep linkToks fun x => (dutyTok ER x.1 x.2.1 x.2.2 : sProp 𝕄)) := by
    rw [hC, hC, hC, hT]
    unfold G
    simp only [bigSep_sep']
  rw [hG]
  exact Rounds.fund ER (linkRd X) linkCells linkToks

/-! ## The semaphores -/

/-- The kernel's own semaphores are all the transfer semaphores. -/
abbrev osem (q : DmaSem sig) : SemLoc sig := .dma q

theorem ownSemFacts : Pipeline.OwnSemFacts cfg0.spec osem := ⟨by decide +kernel, fun _ _ h => SemLoc.dma.inj h, fun _ w => w.elim0⟩

/-- The transfer semaphores by use. -/
abbrev SemIx : Type := (Fin 4 × Fin 32) ⊕ (Fin 2 ⊕ Fin 2 ⊕ Fin 2 ⊕ Unit)
abbrev semAt (i : SemIx) : DmaSem sig := match i with
  | .inl p => xsem p.1 p.2
  | .inr (.inl s) => lxSem s
  | .inr (.inr (.inl s)) => lcSem s
  | .inr (.inr (.inr (.inl s))) => stSem s
  | .inr (.inr (.inr (.inr _))) => sgSem
theorem semAt_injective : ∀ i i' : SemIx, semAt i = semAt i' → i = i' := by decide +kernel
theorem semAt_bijective : Function.Bijective semAt :=
  (Fintype.bijective_iff_injective_and_card semAt).mpr ⟨fun i i' h => semAt_injective i i' h, by decide +kernel⟩

omit [FloatOps F] in
/-- The region's own semaphores, by array and index. -/
theorem ownSems0_eq (c : Dev nD) : (Pipeline.ownSems0 (Ix := Unit) (Name := ℕ) (U := UU) (Lvl := ℕ) (Val := Elt F) (τ := τ) osem c : sProp 𝕄)
    = iprop((bigSep Finset.univ fun p : Fin 4 × Fin 32 => semVal (xCell c p.1 p.2) 0) ∗ localSems c) := by
  unfold Pipeline.ownSems0 localSems
  rw [bigSep_univ_equiv (Equiv.ofBijective semAt semAt_bijective), bigSep_univ_sum, bigSep_univ_sum, bigSep_univ_sum, bigSep_univ_sum,
    bigSep_univ_of_subsingleton ()]
  rfl
omit [FloatOps F] in
/-- The one semaphore outside the region is the barrier's. -/
theorem unscopedSems0_eq (c : Dev nD) : (unscopedSems0 c : sProp 𝕄) = semVal (bCell c) 0 := by
  unfold unscopedSems0; rw [bigSep_eq_bigSepL_of_eq [SemLoc.reg barSem] (by decide +kernel) (by decide)]; rfl

omit [FloatOps F] in
/-- A family over the cells of a device is its barrier's and its transfer cells'. -/
theorem cells_split (Φ : Option (Fin 4 × Fin 32) → sProp 𝕄) :
    bigSep Finset.univ Φ = iprop(Φ none ∗ bigSep Finset.univ fun p : Fin 4 × Fin 32 => Φ (some p)) := by
  rw [bigSep_univ_equiv (Equiv.optionEquivSumPUnit.{0} (Fin 4 × Fin 32)).symm, bigSep_univ_sum, bigSep_univ_of_subsingleton PUnit.unit]
  exact BI.equiv_iff.mp ⟨Idealize.SL.BI.sep_comm, Idealize.SL.BI.sep_comm⟩

/-- What the global step makes of it, for device `c`. -/
def linear (c : Dev nD) : sProp 𝕄 :=
  iprop((bigSep Finset.univ fun o : Option (Fin 4 × Fin 32) => atPos ER (kcell (c, o)) 0 ∅ 0) ∗ payToks c ∗ localSems c)
/-- The records that the cells were opened, under the names `K`. -/
def opened (K : Cells → ℕ) : sProp 𝕄 :=
  iprop((bigSep Finset.univ fun ck : Cells => cellInv ER (linkRd X) (K ck) (kcell ck)) ∗ bigSep Finset.univ fun ck : Cells => reached ER (kcell ck) 0)
instance opened_persistent (K : Cells → ℕ) : BI.Persistent (opened X K) := by unfold opened; infer_instance
def G' (c : Dev nD) : sProp 𝕄 := iprop(∃ K, opened X K ∗ linear c)

/-- A device's cells opened, from its counters at zero. -/
theorem open_device (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun o : Option (Fin 4 × Fin 32) => iprop(∃ κ : ℕ, cellInv ER (linkRd X) κ (kcell (c, o))))
          ∗ (bigSep Finset.univ fun o : Option (Fin 4 × Fin 32) => reached ER (kcell (c, o)) 0)
          ∗ (bigSep Finset.univ fun o : Option (Fin 4 × Fin 32) => atPos ER (kcell (c, o)) 0 ∅ 0) ∗ toks c ∗ localSems c) := by
  have hopen : iprop((bigSep Finset.univ fun o : Option (Fin 4 × Fin 32) => semVal (kcell (c, o)) 0)
        ∗ bigSep Finset.univ fun o : Option (Fin 4 × Fin 32) => roundState ER (linkRd X) (kcell (c, o)) 0)
      ⊢ (|={Set.univ}=> bigSep Finset.univ fun o : Option (Fin 4 × Fin 32) => iprop(∃ κ : ℕ, cellInv ER (linkRd X) κ (kcell (c, o))) : sProp 𝕄) := by
    rw [← bigSep_sep']
    exact (bigSep_mono fun o _ => (Rounds.body_intro ER (linkRd X) (kcell (c, o))).trans inv_alloc).trans (bigSep_fupd _ _)
  rw [ownSems0_eq, unscopedSems0_eq]
  unfold G
  iintro ⟨⟨Hx, Hl⟩, Hb, Hs, Hr, Ha, Ht⟩
  imod hopen $$ [Hx Hb Hs] with HI
  · isplitl [Hx Hb]
    · iapply (Entails.of_eq (cells_split (F := F) _).symm)
      isplitl [Hb]; · iexact Hb
      iexact Hx
    iexact Hs
  imodintro
  isplitl [HI]; · iexact HI
  isplitl [Hr]; · iexact Hr
  isplitl [Ha]; · iexact Ha
  isplitl [Ht]; · iexact Ht
  iexact Hl

/-- All the devices' cells opened: the names collected, the records given to every device, the tokens to who pays. -/
theorem share_out :
    (bigSep Finset.univ fun c : Dev nD => iprop((bigSep Finset.univ fun o : Option (Fin 4 × Fin 32) => iprop(∃ κ : ℕ, cellInv ER (linkRd X) κ (kcell (c, o))))
          ∗ (bigSep Finset.univ fun o : Option (Fin 4 × Fin 32) => reached ER (kcell (c, o)) 0)
          ∗ (bigSep Finset.univ fun o : Option (Fin 4 × Fin 32) => atPos ER (kcell (c, o)) 0 ∅ 0) ∗ toks c ∗ localSems c) : sProp 𝕄)
      ⊢ bigSep Finset.univ (G' X) := by
  have hl : iprop((bigSep Finset.univ fun c : Dev nD => bigSep Finset.univ fun o : Option (Fin 4 × Fin 32) => atPos ER (kcell (c, o)) 0 ∅ 0)
        ∗ (bigSep Finset.univ fun c : Dev nD => payToks c) ∗ bigSep Finset.univ fun c : Dev nD => localSems c)
      = (bigSep Finset.univ fun c : Dev nD => linear c : sProp 𝕄) := by
    unfold linear; simp only [bigSep_sep']
  have hg : ∀ K : Cells → ℕ, iprop(opened X K ∗ bigSep Finset.univ fun c : Dev nD => linear c) ⊢ (bigSep Finset.univ (G' X) : sProp 𝕄) := fun K => by
    refine (sep_mono_left (BI.bigSep_of_persistent (Finset.univ : Finset (Dev nD)) (opened X K))).trans ?_
    rw [← bigSep_sep']
    refine bigSep_mono fun c _ => ?_
    show iprop(opened X K ∗ linear c) ⊢ G' X c
    unfold G'
    iintro H
    iexists K; iexact H
  simp only [bigSep_sep']
  rw [← bigSep_univ_prod (fun ck : Cells => iprop(∃ κ : ℕ, cellInv ER (linkRd X) κ (kcell ck))),
    ← bigSep_univ_prod (fun ck : Cells => (reached ER (kcell ck) 0 : sProp 𝕄)), toks_around]
  iintro ⟨HI, HR, Ha, Ht, Hl⟩
  ihave HK := (BI.bigSep_exists_pi (Y := fun _ : Cells => ℕ) (Finset.univ : Finset Cells) (fun (ck : Cells) (κ : ℕ) => (cellInv ER (linkRd X) κ (kcell ck) : sProp 𝕄))) $$ HI
  icases HK with ⟨%K, HI⟩
  iapply (hg K)
  isplitl [HI HR]
  · unfold opened
    isplitl [HI]; · iexact HI
    iexact HR
  iapply (Entails.of_eq hl)
  isplitl [Ha]; · iexact Ha
  isplitl [Ht]; · iexact Ht
  iexact Hl

/-- The cells are opened on all the devices at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => open_device X c).trans (bigSep_fupd _ _)).trans (BI.fupd_mono (share_out X))

/-! ## The credits -/

omit [FloatOps F] in
/-- What every device owes at the semaphore `sm` of the device `e` leads to is the own credit there. -/
theorem cred_from (e : Dev nD ≃ Dev nD) (sm : SemLoc sig) (n : ℕ) (c : Dev nD) :
    (Pipeline.launchCred (fun d => tallyAt ((e d : Thread nD τ), sm) () n) c : sProp 𝕄) ⊢ cred (tallyAt ((c : Thread nD τ), sm) () n) := by
  have h : tallyOn ((c : Thread nD τ), sm) (launchCredit (Pipeline.owing fun d => tallyAt ((e d : Thread nD τ), sm) () n) 0 ((c : Thread nD τ), sm))
      = (tallyAt ((c : Thread nD τ), sm) () n : CellTallies nD τ sig Unit) := by
    conv_rhs => unfold tallyAt
    refine congrArg _ (Finsupp.ext fun u => ?_); cases u
    rw [Pipeline.launchCredit_owing, Finsupp.single_eq_same, Finset.sum_eq_single (e.symm c)]
    · rw [tallyAt_apply, Equiv.apply_symm_apply, if_pos ⟨rfl, rfl⟩]
    · intro d _ hd
      rw [tallyAt_apply, if_neg]
      rintro ⟨h, -⟩
      have hc : c = e d := congrArg (fun g : GSem nD τ sig => g.1.1) h
      exact hd (by rw [hc, Equiv.symm_apply_apply])
    · exact fun h => absurd (Finset.mem_univ _) h
  exact (Pipeline.launchCred_elim _ c sm).trans (Entails.of_eq (congrArg cred h))

omit [FloatOps F] in
/-- The credits of a sum of dues are the credits of each. -/
theorem cred_sum {I : Type} [DecidableEq I] (S : Finset I) (O : I → Dev nD → CellTallies nD τ sig Unit) (c : Dev nD) :
    (Pipeline.launchCred (fun d => ∑ k ∈ S, O k d) c : sProp 𝕄) = bigSep S fun k => Pipeline.launchCred (O k) c := by
  induction S using Finset.induction_on with
  | empty => simp only [Finset.sum_empty]; rw [Pipeline.launchCred_zero, bigSep_empty]; rfl
  | insert k S hk ih =>
    simp only [Finset.sum_insert hk]
    rw [Pipeline.launchCred_add, ih, bigSep_insert hk]; rfl

omit [FloatOps F] in
/-- A device starts with the two units of its barrier and a block's credit at every arrival. -/
theorem creds (c : Dev nD) :
    (Pipeline.launchCred owe₀ c : sProp 𝕄) ⊢ iprop(cred (tallyAt (bCell c) () 2)
      ∗ (bigSep Finset.univ fun k : Fin 32 => cred (tallyAt (xCell c 1 k) () NB)) ∗ bigSep Finset.univ fun k : Fin 32 => cred (tallyAt (xCell c 3 k) () NB)) := by
  have e : (owe₀ : Dev nD → CellTallies nD τ sig Unit) = fun d => (((∑ k : Fin 32, tallyAt (xCell (yswap d) 1 k) () NB) + ∑ k : Fin 32, tallyAt (xCell (xswap d) 3 k) () NB)
      + tallyAt (bCell (xswap d)) () 1) + tallyAt (bCell (yswap d)) () 1 := by
    funext d
    unfold owe₀ owe₁ owe
    simp only [Nat.zero_le, if_true]
    rfl
  rw [e, Pipeline.launchCred_add, Pipeline.launchCred_add, Pipeline.launchCred_add, cred_sum, cred_sum]
  have hb : iprop(cred (tallyAt (bCell c) () 1) ∗ cred (tallyAt (bCell c) () 1)) ⊢ (cred (tallyAt (bCell c) () 2) : sProp 𝕄) :=
    (cred_add _ _).2.trans (Entails.of_eq (congrArg cred (tallyAt_add _ _ 1 1)))
  have h1 : (bigSep Finset.univ fun k : Fin 32 => Pipeline.launchCred (fun d => tallyAt (xCell (yswap d) 1 k) () NB) c : sProp 𝕄)
      ⊢ bigSep Finset.univ fun k : Fin 32 => cred (tallyAt (xCell c 1 k) () NB) := bigSep_mono fun k _ => cred_from yswap (.dma (xsem 1 k)) NB c
  have h3 : (bigSep Finset.univ fun k : Fin 32 => Pipeline.launchCred (fun d => tallyAt (xCell (xswap d) 3 k) () NB) c : sProp 𝕄)
      ⊢ bigSep Finset.univ fun k : Fin 32 => cred (tallyAt (xCell c 3 k) () NB) := bigSep_mono fun k _ => cred_from xswap (.dma (xsem 3 k)) NB c
  iintro ⟨⟨⟨H1, H3⟩, Hx⟩, Hy⟩
  ihave Hx := (cred_from xswap (.reg barSem) 1 c) $$ Hx
  ihave Hy := (cred_from yswap (.reg barSem) 1 c) $$ Hy
  isplitl [Hx Hy]
  · iapply hb
    isplitl [Hx]; · iexact Hx
    iexact Hy
  isplitl [H1]
  · iapply h1; iexact H1
  iapply h3; iexact H3

end Cert.KernelIdeal.Work

end
-- ==== Proof.BodyEq.lean ====
/-
  The program's body, as the region calls it, is the structured body of `Struct`: the same operations in the same order,
  with the repeated stretches named.
-/
module

public import proofs.«01_k».proof.Proof.Struct

@[expose] public section

set_option synthInstance.maxSize 4096

noncomputable section

namespace Cert.KernelIdeal.Work

open Idealize.ShloMosaic Idealize.ShloMosaic.TcCoe
open Idealize.SL Idealize.SL.Sem
open Cert.KernelIdeal Cert.KernelIdeal.Gen

variable {F : FTy → Type} [FloatOps F]

set_option maxRecDepth 1000000 in
set_option maxHeartbeats 0 in
/-- The body that the region runs is the structured body. -/
theorem body_eq (t : Fin cfg0.N) : bodyAt0 (F := F) t = body := by
  with_unfolding_all exact (rfl : bodyAt0 (F := F) t = body)

end Cert.KernelIdeal.Work

end
-- ==== Proof.Launch.lean ====
/-
  The launch: the body's run put under the region's theorem, and what every run of the whole program ends with.
-/
module

public import proofs.«01_k».proof.Proof.Run
public import proofs.«01_k».proof.Proof.Deal
public import proofs.«01_k».proof.Proof.BodyEq
public import Idealize.ShloMosaic.Lib.Pipeline.CollectiveSegs

@[expose] public section

set_option synthInstance.maxSize 4096

noncomputable section

namespace Cert.KernelIdeal.Work

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat BodyObligation)
open Cert.KernelIdeal Cert.KernelIdeal.Gen

variable {F : FTy → Type} [FloatOps F]

local notation "𝕄" => MT nD τ sig Unit (Elt F) ℕ UU ℕ

variable (X : Inp F)

/-! ## What a device holds at the region's two ends -/

/-- What a device holds before the region hands it the scratch. -/
def entry (c : Dev nD) : sProp 𝕄 :=
  iprop(G' X c ∗ levAts L lv
    ∗ (cred (tallyAt (bCell c) () 2) ∗ (bigSep Finset.univ fun k : Fin 32 => cred (tallyAt (xCell c 1 k) () NB))
      ∗ bigSep Finset.univ fun k : Fin 32 => cred (tallyAt (xCell c 3 k) () NB))
    ∗ xPts c Finset.univ fullShare (X c) ∗ (∃ f, oPts c Finset.univ f) ∗ ∃ f, cPts c Finset.univ fullShare f)

/-- What it keeps to be read after the run. -/
def kept (c : Dev nD) : sProp 𝕄 :=
  iprop(unscopedSems0 c ∗ xPts c Finset.univ (qx 0) (X c) ∗ oPts c Finset.univ (result X c))

omit [FloatOps F] in
theorem linkTok_gather (c : Dev nD) :
    (iprop((bigSep Finset.univ fun p : Fin 4 × Fin 32 => atPos ER (xCell c p.1 p.2) 0 ∅ 0)
        ∗ (cellToks c 0 ∗ cellToks (ynbr c) 1 ∗ cellToks c 2 ∗ cellToks (xnbr c) 3)
        ∗ (bigSep Finset.univ fun k : Fin 32 => cred (tallyAt (xCell c 1 k) () NB)) ∗ bigSep Finset.univ fun k : Fin 32 => cred (tallyAt (xCell c 3 k) () NB)) : sProp 𝕄)
      ⊢ bigSep Finset.univ (linkTok c) := by
  have e : (bigSep Finset.univ (linkTok c) : sProp 𝕄) = bigSep Finset.univ fun k => linkTok c k := rfl
  rw [e]
  unfold linkTok cellToks
  simp only [bigSep_sep']
  rw [bigSep_univ_prod, fin4]
  iintro ⟨⟨Ha0, Ha1, Ha2, Ha3⟩, ⟨Ht0, Ht1, Ht2, Ht3⟩, Hc1, Hc3⟩
  isplitl [Ha0 Ht0 Ht1]
  · isplitl [Ha0]; · iexact Ha0
    isplitl [Ht0]; · iexact Ht0
    iexact Ht1
  isplitl [Ha1 Hc1]
  · isplitl [Ha1]; · iexact Ha1
    iexact Hc1
  isplitl [Ha2 Ht2 Ht3]
  · isplitl [Ha2]; · iexact Ha2
    isplitl [Ht2]; · iexact Ht2
    iexact Ht3
  isplitl [Ha3]; · iexact Ha3
  iexact Hc3

/-- What the launch hands over, with the scratch, is what the body starts from. -/
theorem entry_start (c : Dev nD) : iprop(entry X c ∗ scratch c) ⊢ iprop(∃ Kn, start X Kn c) := by
  unfold entry G' opened linear payToks
  iintro ⟨⟨⟨%K, ⟨HI, HR⟩, Ha, ⟨⟨Hdy, Hdx⟩, Ht⟩, Hl⟩, Hlev, ⟨Hcb, Hc1, Hc3⟩, Hx, Ho, Hc⟩, Hs⟩
  iexists K
  unfold start records
  isplitl [HI HR Hlev]
  · isplitl [HI]; · iexact HI
    isplitl [HR]; · iexact HR
    iexact Hlev
  ihave Ha := (Entails.of_eq (cells_split (F := F) fun o => atPos ER (kcell (c, o)) 0 ∅ 0)) $$ Ha
  icases Ha with ⟨Hab, Hax⟩
  isplitl [Hab Hcb Hdy Hdx]
  · isplitl [Hab]; · iexact Hab
    isplitl [Hcb]; · iexact Hcb
    isplitl [Hdy]; · iexact Hdy
    iexact Hdx
  isplitl [Hax Ht Hc1 Hc3]
  · iapply (linkTok_gather (F := F) c)
    isplitl [Hax]; · iexact Hax
    isplitl [Ht]; · iexact Ht
    isplitl [Hc1]; · iexact Hc1
    iexact Hc3
  isplitl [Hl]; · iexact Hl
  isplitl [Hs]; · iexact Hs
  isplitl [Hx]; · iexact Hx
  isplitl [Ho]; · iexact Ho
  iexact Hc

/-! ## The region -/

variable (m : (ℓ : Loc nD τ sig) → Buf (Elt F) ℓ) (ρ : Dev nD → PrngReg)

/-- Every device's block as the memory has it. -/
def X₀ : Inp F := fun c => m ((c : Thread nD τ).loc main_arg0)

/-- The region's schedule of what a device holds: `start` before its one step, `finish` after it. -/
def dats : (p : Fin 1) → (c : Dev nD) → Dat τ (Elt F) Unit ℕ UU ℕ (cfgs p) c := fun p c =>
  { A := fun w => m (((cfgs p).spec w).arr.view.loc (c : Thread nD τ))
    after := fun w => by have : (cfgs p).W = 0 := by fin_cases p; rfl
                         exact (Fin.cast this w).elim0
    Φ := fun t => match t with
      | ⟨0, _⟩ => iprop(∃ Kn, start (X₀ m) Kn c)
      | ⟨_ + 1, _⟩ => finish (X₀ m) c
    q := fun _ => fullShare
    owed := fun t => match t with
      | ⟨0, _⟩ => owe₀ c
      | ⟨_ + 1, _⟩ => 0 }

omit [FloatOps F] in
theorem prog_eq (t : Fin cfg0.N) [FloatOps F] : (defs₀ (F := F) .tc cfg0.body (cfg0.bodyArgs t (cfg0.slots t))) = bodyAt0 t := rfl

/-- The body takes the one to the other. -/
theorem body_obligation (c : Dev nD) : BodyObligation (dats m 0 c) (defs₀ (F := F)) 𝒱₀ () Set.univ := fun t => by
  have hb : iprop((∃ Kn, start (X₀ m) Kn c) ∗ owesE c (owe₀ c)) ⊢ wpc c body fun _ => iprop(finish (X₀ m) c ∗ owesE c 0) := by
    iintro ⟨⟨%Kn, Hs⟩, Ho⟩
    iapply (run_body (X₀ m) Kn c fun _ => iprop(finish (X₀ m) c ∗ owesE c 0)) $$ [Hs Ho]
    · isplitl [Hs]; · iexact Hs
      iexact Ho
    iintro H; iexact H
  rw [fin_N0 t]
  rw [show defs₀ (F := F) .tc (cfgs 0).body ((cfgs 0).bodyArgs t0_0 ((cfgs 0).slots t0_0)) = body from (prog_eq t0_0).trans (body_eq t0_0)]
  have hin : iprop((dats m 0 c).Φ t0_0.castSucc ∗ (dats m 0 c).owesAt () t0_0.castSucc) ⊢ iprop((∃ Kn, start (X₀ m) Kn c) ∗ owesE c (owe₀ c)) := by
    rw [show (dats m 0 c).Φ t0_0.castSucc = iprop(∃ Kn, start (X₀ m) Kn c) from rfl]
    refine sep_mono_right ?_
    unfold owesE
    show Pipeline.owesWithin c (owe₀ c) ((dats m 0 c).bound () t0_0.castSucc) ⊢ _
    unfold Pipeline.owesWithin
    iintro ⟨%W, -, H⟩
    iexists W; iexact H
  have hout : iprop(finish (X₀ m) c ∗ owesE c 0) ⊢ iprop((dats m 0 c).Φ t0_0.succ ∗ (dats m 0 c).owesAt () t0_0.succ) := by
    rw [show (dats m 0 c).Φ t0_0.succ = finish (X₀ m) c from rfl]
    refine sep_mono_right ?_
    unfold owesE
    show _ ⊢ Pipeline.owesWithin c 0 ((dats m 0 c).bound () t0_0.succ)
    unfold Pipeline.owesWithin
    iintro ⟨%W, H⟩
    iexists W
    isplitr; · ipureintro; exact fun _ _ => Or.inl trivial
    iexact H
  have hW (Φ : Fin (cfgs 0).W → sProp 𝕄) : bigSep Finset.univ Φ = iprop(emp) := bigSep_empty
  rw [hW, hW]
  have hI (A B C : sProp 𝕄) (h : iprop(A ∗ B) ⊢ C) : iprop(A ∗ B ∗ emp) ⊢ C := by
    iintro ⟨H1, H2, -⟩
    iapply h
    isplitl [H1]; · iexact H1
    iexact H2
  have hO (A B C : sProp 𝕄) (h : C ⊢ iprop(A ∗ B)) : C ⊢ iprop(A ∗ B ∗ emp) := by
    iintro H
    ihave H := h $$ H
    icases H with ⟨H1, H2⟩
    isplitl [H1]; · iexact H1
    isplitl [H2]; · iexact H2
    iempintro
  unfold wpc at hb
  generalize (body (F := F)) = p at hb ⊢
  exact (hI _ _ _ hin).trans (hb.trans (wp_mono _ _ _ fun _ => hO _ _ _ hout))

/-! ## The launch's sides -/

theorem share_eq (c : Dev nD) (w : Fin cfg0.W) : (dats m 0 c).share w = fullShare := w.elim0

/-- The launch gives every device what it starts from. -/
theorem entry_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' (X₀ m) c)
      ⊢ |={Set.univ}=> iprop(entry (X₀ m) c ∗ emp) := by
  rw [Pipeline.unscopedRestP_none, unscopedRest0_eq]
  iintro ⟨⟨Hx, Ho, Hc⟩, Hlev, Hcr, -, HG⟩
  imodintro
  isplitl
  · unfold entry
    isplitl [HG]; · iexact HG
    isplitl [Hlev]; · iexact Hlev
    isplitl [Hcr]; · iapply (creds (F := F) c); iexact Hcr
    unfold xPts oPts cPts
    isplitl [Hx]; · iexact Hx
    isplitl [Ho]; · iexists _; iexact Ho
    iexists _; iexact Hc
  · iempintro

/-- The region's entry. -/
theorem phi_in (c : Dev nD) :
    iprop(entry (X₀ m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ Kn, start (X₀ m) Kn c) from rfl]
  rw [scopedRest0_eq]
  iintro ⟨Hb, -, Hs⟩
  iapply (entry_start (X₀ m) c)
  isplitl [Hb]; · iexact Hb
  unfold scratch
  iexact Hs

/-- The region's exit. -/
theorem phi_out (c : Dev nD) :
    (dats m 0 c).Φ (Fin.last cfg0.N) ⊢ iprop(kept (X₀ m) c ∗ Pipeline.ownSems0 osem c ∗ Pipeline.scopedRest cfg0.spec c) := by
  rw [show (dats m 0 c).Φ (Fin.last cfg0.N) = finish (X₀ m) c from rfl, scopedRest0_eq, ownSems0_eq]
  unfold finish kept scratch
  rw [unscopedSems0_eq]
  iintro ⟨Hb, Hx, Hl, Hs, HX, HO⟩
  isplitl [Hb HX HO]
  · isplitl [Hb]; · iexact Hb
    isplitl [HX]; · iexact HX
    iexact HO
  isplitl [Hx Hl]
  · isplitl [Hx]; · iexact Hx
    iexact Hl
  iexact Hs

/-- What device `c`'s memory holds after the run. -/
def QY (c : Dev nD) (s : MemSt nD τ sig (Elt F)) : Prop :=
  (s.mem ((c : Thread nD τ).loc main_v1_0) = result (X₀ m) c ∧ s.mem ((c : Thread nD τ).loc main_arg0) = X₀ m c)
    ∧ ∀ sm : SemLoc sig, sm.isScoped .tc = false → s.sem ((c : Thread nD τ), sm) = 0

/-- What a device keeps is what the final memory holds. -/
theorem read_out (c : Dev nD) (s' : Phys nD τ sig (Elt F)) :
    iprop(kept (X₀ m) c ∗ emp ∗ SI s') ⊢ |={Set.univ}=> iprop(⌜QY m c s'.mem⌝ ∗ SI s') := by
  unfold kept xPts oPts
  iintro ⟨⟨Hu, Hx, Ho⟩, -, HSI⟩
  ihave H1 := (pointsTo_read_all {()} (fun _ : Unit => (c : Thread nD τ).loc main_arg0) (fun _ => X₀ m c) s' (qx 0)) $$ [Hx HSI]
  · isplitl [Hx]
    · rw [bigSep_singleton]; iexact Hx
    iexact HSI
  icases H1 with ⟨%h1, HSI⟩
  ihave H2 := (pointsTo_read_all {()} (fun _ : Unit => (c : Thread nD τ).loc main_v1_0) (fun _ => result (X₀ m) c) s' fullShare) $$ [Ho HSI]
  · isplitl [Ho]
    · rw [bigSep_singleton]; iexact Ho
    iexact HSI
  icases H2 with ⟨%h2, HSI⟩
  imod (Pipeline.unscopedSems0_read (X := unscopedSems0 c) (c := c) fupd_intro s') $$ [Hu HSI] with ⟨%h3, HSI⟩
  · isplitl [Hu]; · iexact Hu
    iexact HSI
  imodintro
  isplitr
  · ipureintro
    exact ⟨⟨h2 () (Finset.mem_singleton_self _), h1 () (Finset.mem_singleton_self _)⟩, h3⟩
  iexact HSI

/-- From any memory with zero counters, for any float values: every weakly fair execution of the program on the four
    devices ends, with each device's result array at the computed contents, its block of the argument unchanged and
    every semaphore counter at zero. -/
theorem run_main : θ_run defs (onTc (τ := τ) (main (F := F))) ⟨m, fun _ => 0, ρ⟩ (fun r =>
    (∀ c : Dev nD, r.2.mem ((c : Thread nD τ).loc main_v1_0) = result (X₀ m) c ∧ r.2.mem ((c : Thread nD τ).loc main_arg0) = X₀ m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := fun c => Pipeline.cellsWaits_intro cfgs (dats m) () 0 c fun w => w.elim0)
    (G := G (X₀ m)) (G' := G' (X₀ m)) (u₀ := u₀)
    (hu₀ := by
      iintro Hu
      ihave H := (u₀_split (F := F)) $$ Hu
      icases H with ⟨HP, HX⟩
      imod (deal (X₀ m)) $$ HX with HG
      imodintro
      isplitl [HP]; · iexact HP
      iexact HG)
    (hglob := glob (X₀ m))
    (hA := fun _ _ => rfl) (hpf := fun _ k => k.elim0)
    (X := entry (X₀ m)) (Y := kept (X₀ m)) (Z := fun _ => iprop(emp))
    (hX := entry_intro m ρ) (hin := phi_in m) (hout := phi_out m)
    (QY := QY m) (hY := read_out m)
    (hQ := fun _ h hs => ⟨fun c => (h c).2.2.1, sem_eq_zero hs fun c => (h c).2.2.2⟩)

end Cert.KernelIdeal.Work

end
-- ==== Proof.Value.lean ====
/-
  What the runs compute, over the extended reals: a change of format is the identity there, so a device's result is
  its own block of the argument plus the block of the other column, which is the reference's sum of the two blocks.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pipeline.Value
public import Idealize.ShloMosaic.Lib.Pointwise.Reduce
public import Idealize.ShloMosaic.Lib.Quiescent

@[expose] public section

noncomputable section

namespace Cert.KernelIdeal.Work

open Idealize.ShloMosaic Idealize.ShloMosaic.TcCoe Idealize.SL.Sem
open Cert.KernelIdeal Cert.KernelIdeal.Gen

/-- The whole argument's shape. -/
abbrev SWhole : Shape := ⟨2, ![32768, 1024]⟩

/-- Where row `i` of block `b` is in the whole argument. -/
def rowOf (b : Fin 2) (i : S16384x1024.Idx) : SWhole.Idx := fun a => match a with
  | ⟨0, _⟩ => ⟨16384 * b.val + (i 0).val, by have h : (i 0).val < 16384 := (i 0).isLt; have := b.isLt; show _ < 32768; omega⟩
  | ⟨1, _⟩ => i 1

/-- Block `b` of the whole argument. -/
def half {α : Type} (x : SWhole.Idx → α) (b : Fin 2) : S16384x1024.Idx → α := fun i => x (rowOf b i)

/-- A device's column in the mesh. -/
def col (c : Dev nD) : Fin 2 := ⟨c.val % 2, Nat.mod_lt _ (by decide)⟩

/-- A device holds the block its column names. -/
theorem block_eq {α : Type} (x : SWhole.Idx → α) (c : Dev nD) :
    Layout.blockN ⟨2, ![16384, 1024]⟩ ⟨2, ![32768, 1024]⟩ (Layout.meshBlock [2, 2] ![[1], []] c) x = half x (col c) := by
  funext i
  unfold half
  rw [Layout.blockN_apply]
  refine congrArg x (funext fun a => Fin.ext ?_)
  match a with
  | ⟨0, _⟩ =>
    rw [Layout.TilesN.idx_val, Layout.meshBlock_val]
    show Layout.meshLin [2, 2] c.val [1] * 16384 + (i 0).val = 16384 * (c.val % 2) + (i 0).val
    have : Layout.meshLin [2, 2] c.val [1] = c.val % 2 := by
      simp [Layout.meshLin, Layout.meshCoord, Layout.cutSize]
    omega
  | ⟨1, _⟩ =>
    rw [Layout.TilesN.idx_val, Layout.meshBlock_val]
    show Layout.meshLin [2, 2] c.val [] * 1024 + (i 1).val = (i 1).val
    simp [Layout.meshLin]

theorem col_ynbr (c : Dev nD) : (col (ynbr c)).val = 1 - (col c).val := by
  show (ynbr c).val % 2 = 1 - c.val % 2
  have := dev_lt c
  rw [ynbr_val]; omega
theorem col_ynbr_xnbr (c : Dev nD) : col (ynbr (xnbr c)) = col (ynbr c) := by
  apply Fin.ext
  rw [col_ynbr, col_ynbr]
  show 1 - (xnbr c).val % 2 = 1 - c.val % 2
  have := dev_lt c
  rw [xnbr_val]; omega

/-- With the argument laid out in blocks, every device ends with the sum of the two. -/
theorem result_eq (x : SWhole.Idx → Ideal .f32) (c : Dev nD) (i : S16384x1024.Idx) :
    result (F := Ideal) (fun d => half x (col d)) c i = (half x 0 i : EReal) + half x 1 i := by
  have hr : recvd (F := Ideal) (fun d => half x (col d)) c i = half x (col (ynbr c)) i := by
    unfold recvd
    split
    · rfl
    · show half x (col (ynbr (xnbr c))) i = _
      rw [col_ynbr_xnbr]
  have h : result (F := Ideal) (fun d => half x (col d)) c i = (half x (col c) i : EReal) + recvd (F := Ideal) (fun d => half x (col d)) c i := rfl
  rw [h, hr]
  have hy := col_ynbr c
  rcases (by have := (col c).isLt; omega : (col c).val = 0 ∨ (col c).val = 1) with h0 | h1
  · rw [show col c = 0 from Fin.ext h0, show col (ynbr c) = 1 from Fin.ext (by rw [hy, h0]; rfl)]
  · rw [show col c = 1 from Fin.ext h1, show col (ynbr c) = 0 from Fin.ext (by rw [hy, h1]; rfl)]
    exact add_comm _ _

/-- The reference's term on the whole argument. -/
abbrev refSum (x : SWhole.Idx → Ideal .f32) : S16384x1024.Idx → Ideal .f32 :=
  Host.reduceAdd (F := Ideal) (shapeCast _ x Cert.ReferenceIdeal.Gen.shapeCasts_S32768x1024_S2x16384x1024) (constant Cert.ReferenceIdeal.S_ .f32 0x00000000#32)
    Cert.ReferenceIdeal.Gen.reducesTo_S2x16384x1024_S16384x1024_d0 Cert.ReferenceIdeal.Gen.h_S_

/-- The reference's sum at an index is the sum of the two halves. -/
theorem refSum_eq (x : SWhole.Idx → Ideal .f32) (i : S16384x1024.Idx) : refSum x i = (half x 0 i : EReal) + half x 1 i := by
  unfold refSum
  rw [ValueIdx.hostReduceAdd_apply, Ideal.hostReduceAdd_r3_a0, Fin.sum_univ_two]
  have hz : (constant (F := Ideal) Cert.ReferenceIdeal.S_ .f32 0x00000000#32 (Shape.Idx.first Cert.ReferenceIdeal.Gen.h_S_) : EReal) = 0 := Ideal.ofBits_zero_f32
  rw [hz, zero_add]
  have hk (b : Fin 2) (j : Cert.ReferenceIdeal.S2x16384x1024.Idx) (h0 : (j 0).val = b.val) (h1 : (j 1).val = (i 0).val) (h2 : (j 2).val = (i 1).val) :
      shapeCast _ x Cert.ReferenceIdeal.Gen.shapeCasts_S32768x1024_S2x16384x1024 j = half x b i := by
    refine shapeCast_apply x _ j (rowOf b i) ?_
    rw [Shape.rowMajor_val_two, Shape.rowMajor_val_three, h0, h1, h2]
    show (16384 * b.val + (i 0).val) * 1024 + (i 1).val = (b.val * 16384 + (i 0).val) * 1024 + (i 1).val
    omega
  rw [hk 0 _ rfl rfl rfl, hk 1 _ rfl rfl rfl]

end Cert.KernelIdeal.Work

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at the machine's own floats: the idealization's text is the kernel's own, so its run is the kernel's. -/
theorem quiescent_kernel : @Cert.quiescent_Kernel Cert.Kernel.Gen.facts := fun m ρ _ =>
  (θ_run Cert.KernelIdeal.defs _ _).mono (fun _ h => ⟨fun c => (h.1 c).2, h.2⟩) (Cert.KernelIdeal.Work.run_main (F := Bits) m ρ)

/-- The idealized kernel: every run ends, its argument as it was, with every semaphore at zero. -/
theorem quiescent_kernelIdeal : @Cert.quiescent_KernelIdeal Cert.KernelIdeal.Gen.facts := fun m ρ _ =>
  (θ_run Cert.KernelIdeal.defs _ _).mono (fun _ h => ⟨fun c => (h.1 c).2, h.2⟩) (Cert.KernelIdeal.Work.run_main (F := Ideal) m ρ)

/-- The reference has no semaphore. -/
theorem quiescent_referenceIdeal : @Cert.quiescent_ReferenceIdeal Cert.ReferenceIdeal.Gen.facts := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals every device's result is the reference's sum of the two blocks. -/
theorem algebraic : @Cert.algebraic_KernelIdeal_ReferenceIdeal Cert.KernelIdeal.Gen.facts Cert.ReferenceIdeal.Gen.facts := by
  intro m ρ m' ρ' _ hm
  have hx (x : Cert.KernelIdeal.Work.SWhole.Idx → Ideal .f32) (hm : ∀ c, Cert.KernelIdeal.Work.X₀ m c = Cert.KernelIdeal.Work.half x (Cert.KernelIdeal.Work.col c))
      (c : Dev Cert.KernelIdeal.nD) : Cert.KernelIdeal.Work.result (Cert.KernelIdeal.Work.X₀ m) c = Cert.KernelIdeal.Work.refSum x := by
    rw [show Cert.KernelIdeal.Work.X₀ m = fun d => Cert.KernelIdeal.Work.half x (Cert.KernelIdeal.Work.col d) from funext hm]
    exact funext fun i => (Cert.KernelIdeal.Work.result_eq x c i).trans (Cert.KernelIdeal.Work.refSum_eq x i).symm
  have hr := hx (m' (((0 : Dev Cert.ReferenceIdeal.nD).tc : Thread Cert.ReferenceIdeal.nD Cert.ReferenceIdeal.τ).loc Cert.ReferenceIdeal.main_arg0))
    fun c => (hm c).trans (Cert.KernelIdeal.Work.block_eq _ c)
  exact ⟨_, (θ_run Cert.KernelIdeal.defs _ _).mono (fun _ h c => ⟨(h.1 c).1.trans (hr c), (h.1 c).2⟩) (Cert.KernelIdeal.Work.run_main (F := Ideal) m ρ),
    (θ_run Cert.ReferenceIdeal.defs _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
